-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)) (v2 : (c : Dev Cert.KernelIdeal.nD) → Buf (Elt Ideal) ((c.tc : Thread Cert.KernelIdeal.nD Cert.KernelIdeal.τ).loc Cert.KernelIdeal.main_v4_2)) (v3 : (c : Dev Cert.KernelIdeal.nD) → Buf (Elt Ideal) ((c.tc : Thread Cert.KernelIdeal.nD Cert.KernelIdeal.τ).loc Cert.KernelIdeal.main_v4_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_v4_2) = v2 c
          ∧ r.2.mem ((c.tc : Thread Cert.KernelIdeal.nD Cert.KernelIdeal.τ).loc Cert.KernelIdeal.main_v4_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_v0_3) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S24x768x1152 : Shape := ⟨3, ![24, 768, 1152]⟩
abbrev S24x1152 : Shape := ⟨2, ![24, 1152]⟩
abbrev S1152x16 : Shape := ⟨2, ![1152, 16]⟩
abbrev S16 : Shape := ⟨1, ![16]⟩
abbrev S12 : Shape := ⟨1, ![12]⟩
abbrev S12x4x48x64 : Shape := ⟨4, ![12, 4, 48, 64]⟩
abbrev S2x12x768x1152 : Shape := ⟨4, ![2, 12, 768, 1152]⟩
abbrev S16x1152 : Shape := ⟨2, ![16, 1152]⟩
abbrev S1x16 : Shape := ⟨2, ![1, 16]⟩
abbrev S24x768 : Shape := ⟨2, ![24, 768]⟩
abbrev S2x1x768x1152 : Shape := ⟨4, ![2, 1, 768, 1152]⟩
abbrev S1x4x48x64 : Shape := ⟨4, ![1, 4, 48, 64]⟩
abbrev S2x16x768 : Shape := ⟨3, ![2, 16, 768]⟩
abbrev S6x24x128 : Shape := ⟨3, ![6, 24, 128]⟩
abbrev S4x48x64 : Shape := ⟨3, ![4, 48, 64]⟩
abbrev S1x1152 : Shape := ⟨2, ![1, 1152]⟩
abbrev S1x1x128x1152 : Shape := ⟨4, ![1, 1, 128, 1152]⟩
abbrev S128x1152 : Shape := ⟨2, ![128, 1152]⟩
abbrev S128 : Shape := ⟨1, ![128]⟩
abbrev S128x1 : Shape := ⟨2, ![128, 1]⟩
abbrev S128x128 : Shape := ⟨2, ![128, 128]⟩
abbrev S1x128 : Shape := ⟨2, ![1, 128]⟩
abbrev S1x1x128 : Shape := ⟨3, ![1, 1, 128]⟩
abbrev S16x128 : Shape := ⟨2, ![16, 128]⟩
abbrev S1x16x128 : Shape := ⟨3, ![1, 16, 128]⟩
abbrev S1x24x128 : Shape := ⟨3, ![1, 24, 128]⟩
abbrev S24x128 : Shape := ⟨2, ![24, 128]⟩
abbrev S16x16 : Shape := ⟨2, ![16, 16]⟩
abbrev S16x1 : Shape := ⟨2, ![16, 1]⟩
abbrev S1x16x768 : Shape := ⟨3, ![1, 16, 768]⟩
abbrev S16x768 : Shape := ⟨2, ![16, 768]⟩
abbrev S1 : Shape := ⟨1, ![1]⟩
abbrev S1x1x1 : Shape := ⟨3, ![1, 1, 1]⟩
abbrev S1x1 : Shape := ⟨2, ![1, 1]⟩
abbrev S8x128 : Shape := ⟨2, ![8, 128]⟩
abbrev S8x128x1 : Shape := ⟨3, ![8, 128, 1]⟩
abbrev S4x128 : Shape := ⟨2, ![4, 128]⟩
abbrev S4x64 : Shape := ⟨2, ![4, 64]⟩
abbrev S4x1x64 : Shape := ⟨3, ![4, 1, 64]⟩

abbrev nBuf : Space → Nat
  | .hbm => 18
  | .vmem => 19
  | .smem => 3
  | _ => 0

abbrev bufTy : (tb : Table) → Fin (tcTables nBuf tb) → BufTy
  | .hbm, ⟨0, _⟩ => ⟨S24x768x1152, .bf16⟩
  | .hbm, ⟨1, _⟩ => ⟨S24x1152, .f32⟩
  | .hbm, ⟨2, _⟩ => ⟨S24x1152, .f32⟩
  | .hbm, ⟨3, _⟩ => ⟨S1152x16, .fp8e4m3⟩
  | .hbm, ⟨4, _⟩ => ⟨S16, .f32⟩
  | .hbm, ⟨5, _⟩ => ⟨S16, .f32⟩
  | .hbm, ⟨6, _⟩ => ⟨S12, .f32⟩
  | .hbm, ⟨7, _⟩ => ⟨S12, .f32⟩
  | .hbm, ⟨8, _⟩ => ⟨S12, .f32⟩
  | .hbm, ⟨9, _⟩ => ⟨S12x4x48x64, .f32⟩
  | .hbm, ⟨10, _⟩ => ⟨S2x12x768x1152, .bf16⟩
  | .hbm, ⟨11, _⟩ => ⟨S16x1152, .fp8e4m3⟩
  | .hbm, ⟨12, _⟩ => ⟨S1x16, .f32⟩
  | .hbm, ⟨13, _⟩ => ⟨S1x16, .f32⟩
  | .hbm, ⟨14, _⟩ => ⟨S12x4x48x64, .f32⟩
  | .hbm, ⟨15, _⟩ => ⟨S12x4x48x64, .bf16⟩
  | .hbm, ⟨16, _⟩ => ⟨S2x12x768x1152, .fp8e4m3⟩
  | .hbm, ⟨17, _⟩ => ⟨S24x768, .f32⟩
  | .local _ .vmem, ⟨0, _⟩ => ⟨S2x1x768x1152, .bf16⟩
  | .local _ .vmem, ⟨1, _⟩ => ⟨S2x1x768x1152, .bf16⟩
  | .local _ .vmem, ⟨2, _⟩ => ⟨S24x1152, .f32⟩
  | .local _ .vmem, ⟨3, _⟩ => ⟨S24x1152, .f32⟩
  | .local _ .vmem, ⟨4, _⟩ => ⟨S16x1152, .fp8e4m3⟩
  | .local _ .vmem, ⟨5, _⟩ => ⟨S1x16, .f32⟩
  | .local _ .vmem, ⟨6, _⟩ => ⟨S1x16, .f32⟩
  | .local _ .vmem, ⟨7, _⟩ => ⟨S1x4x48x64, .f32⟩
  | .local _ .vmem, ⟨8, _⟩ => ⟨S1x4x48x64, .f32⟩
  | .local _ .vmem, ⟨9, _⟩ => ⟨S1x4x48x64, .f32⟩
  | .local _ .vmem, ⟨10, _⟩ => ⟨S1x4x48x64, .f32⟩
  | .local _ .vmem, ⟨11, _⟩ => ⟨S1x4x48x64, .bf16⟩
  | .local _ .vmem, ⟨12, _⟩ => ⟨S1x4x48x64, .bf16⟩
  | .local _ .vmem, ⟨13, _⟩ => ⟨S2x1x768x1152, .fp8e4m3⟩
  | .local _ .vmem, ⟨14, _⟩ => ⟨S2x1x768x1152, .fp8e4m3⟩
  | .local _ .vmem, ⟨15, _⟩ => ⟨S24x768, .f32⟩
  | .local _ .vmem, ⟨16, _⟩ => ⟨S2x16x768, .f32⟩
  | .local _ .vmem, ⟨17, _⟩ => ⟨S6x24x128, .f32⟩
  | .local _ .vmem, ⟨18, _⟩ => ⟨S4x48x64, .f32⟩
  | .local _ .smem, ⟨0, _⟩ => ⟨S12, .f32⟩
  | .local _ .smem, ⟨1, _⟩ => ⟨S12, .f32⟩
  | .local _ .smem, ⟨2, _⟩ => ⟨S12, .f32⟩
  | _, _ => ⟨S24x768x1152, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4_0 : Ref sig .tc := ⟨.hbm, 14, rfl⟩
abbrev main_v4_1 : Ref sig .tc := ⟨.hbm, 15, rfl⟩
abbrev main_v4_2 : Ref sig .tc := ⟨.hbm, 16, rfl⟩
abbrev main_v4_3 : Ref sig .tc := ⟨.hbm, 17, rfl⟩
abbrev cc0_stg3_0 : Ref sig .tc := ⟨.vmem, 0, rfl⟩
abbrev cc0_stg3_1 : Ref sig .tc := ⟨.vmem, 1, rfl⟩
abbrev cc0_stg4_0 : Ref sig .tc := ⟨.vmem, 2, rfl⟩
abbrev cc0_stg5_0 : Ref sig .tc := ⟨.vmem, 3, rfl⟩
abbrev cc0_stg6_0 : Ref sig .tc := ⟨.vmem, 4, rfl⟩
abbrev cc0_stg7_0 : Ref sig .tc := ⟨.vmem, 5, rfl⟩
abbrev cc0_stg8_0 : Ref sig .tc := ⟨.vmem, 6, rfl⟩
abbrev cc0_stg9_0 : Ref sig .tc := ⟨.vmem, 7, rfl⟩
abbrev cc0_stg9_1 : Ref sig .tc := ⟨.vmem, 8, rfl⟩
abbrev cc0_stg10_0 : Ref sig .tc := ⟨.vmem, 9, rfl⟩
abbrev cc0_stg10_1 : Ref sig .tc := ⟨.vmem, 10, rfl⟩
abbrev cc0_stg11_0 : Ref sig .tc := ⟨.vmem, 11, rfl⟩
abbrev cc0_stg11_1 : Ref sig .tc := ⟨.vmem, 12, rfl⟩
abbrev cc0_stg12_0 : Ref sig .tc := ⟨.vmem, 13, rfl⟩
abbrev cc0_stg12_1 : Ref sig .tc := ⟨.vmem, 14, rfl⟩
abbrev cc0_stg13_0 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc0_sem10_0 : DmaSem sig := 12
abbrev cc0_sem10_1 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18

abbrev nD : Nat := 1
abbrev τ : Topo := Topo.v7x

variable {F : FTy → Type} [FloatOps F]

abbrev grid0 : Pipeline.Grid := ⟨1, ![12], ![false]⟩

def k0_off1 (i : grid0.Coords) (c0_i32 : BitVec 32) : Fin 2 → Nat :=
  let arg0 : BitVec 32 := BitVec.ofNat 32 (i 0).val
  let v0 : BitVec 32 := Scalar.addi c0_i32 arg0
  let v1 : Index := Scalar.indexCast v0
  let c0 : Index := 0#32
  ![v1.toNat, 0]
@[reducible] def k0_t1_loop : Scf.Loop 32 :=
  let c0_i32_2 : BitVec 32 := 0#32
  let c6_i32 : BitVec 32 := 6#32
  let v8 : BitVec 32 := Scalar.addi c0_i32_2 c6_i32
  let c1_i32 : BitVec 32 := 1#32
  ⟨c0_i32_2, v8, c1_i32⟩
def k0_off2 (k0_t1 : Fin k0_t1_loop.trips) : Fin 4 → Nat :=
  let c0_313 : Index := 0#32
  let c0_314 : Index := 0#32
  let c0_i32_2 : BitVec 32 := 0#32
  let c1_i32 : BitVec 32 := 1#32
  let arg18 : BitVec 32 := Scf.iv c0_i32_2 c1_i32 k0_t1
  let c128_i32_312 : BitVec 32 := 128#32
  let v774 : BitVec 32 := Scalar.muli arg18 c128_i32_312
  let v775 : Index := Scalar.indexCast v774
  let c0_315 : Index := 0#32
  ![0, 0, v775.toNat, 0]
def k0_off3 (i : grid0.Coords) (k0_t1 : Fin k0_t1_loop.trips) : Fin 3 → Nat :=
  let c0_i32_2 : BitVec 32 := 0#32
  let c1_i32 : BitVec 32 := 1#32
  let arg18 : BitVec 32 := Scf.iv c0_i32_2 c1_i32 k0_t1
  let v921 : Index := Scalar.indexCast arg18
  let c0_i32_358 : BitVec 32 := 0#32
  let arg0 : BitVec 32 := BitVec.ofNat 32 (i 0).val
  let v920 : BitVec 32 := Scalar.addi c0_i32_358 arg0
  let v922 : Index := Scalar.indexCast v920
  let c0_359 : Index := 0#32
  ![v921.toNat, v922.toNat, 0]
def k0_off4 (k0_t1 : Fin k0_t1_loop.trips) : Fin 3 → Nat :=
  let c0_364 : Index := 0#32
  let c0_365 : Index := 0#32
  let c0_i32_2 : BitVec 32 := 0#32
  let c1_i32 : BitVec 32 := 1#32
  let arg18 : BitVec 32 := Scf.iv c0_i32_2 c1_i32 k0_t1
  let c128_i32_363 : BitVec 32 := 128#32
  let v931 : BitVec 32 := Scalar.muli arg18 c128_i32_363
  let v932 : Index := Scalar.indexCast v931
  ![0, 0, v932.toNat]
@[reducible] def k0_t2_loop : Scf.Loop 32 :=
  let c0_i32_8 : BitVec 32 := 0#32
  let c6_i32_9 : BitVec 32 := 6#32
  let v17 : BitVec 32 := Scalar.addi c0_i32_8 c6_i32_9
  let c1_i32_10 : BitVec 32 := 1#32
  ⟨c0_i32_8, v17, c1_i32_10⟩
def k0_off5 (k0_t2 : Fin k0_t2_loop.trips) : Fin 4 → Nat :=
  let c1_313 : Index := 1#32
  let c0_314 : Index := 0#32
  let c0_i32_8 : BitVec 32 := 0#32
  let c1_i32_10 : BitVec 32 := 1#32
  let arg18 : BitVec 32 := Scf.iv c0_i32_8 c1_i32_10 k0_t2
  let c128_i32_312 : BitVec 32 := 128#32
  let v774 : BitVec 32 := Scalar.muli arg18 c128_i32_312
  let v775 : Index := Scalar.indexCast v774
  let c0_315 : Index := 0#32
  ![1, 0, v775.toNat, 0]
def k0_off6 (i : grid0.Coords) (k0_t2 : Fin k0_t2_loop.trips) : Fin 3 → Nat :=
  let c0_i32_8 : BitVec 32 := 0#32
  let c1_i32_10 : BitVec 32 := 1#32
  let arg18 : BitVec 32 := Scf.iv c0_i32_8 c1_i32_10 k0_t2
  let v921 : Index := Scalar.indexCast arg18
  let c12_i32_358 : BitVec 32 := 12#32
  let arg0 : BitVec 32 := BitVec.ofNat 32 (i 0).val
  let v920 : BitVec 32 := Scalar.addi c12_i32_358 arg0
  let v922 : Index := Scalar.indexCast v920
  let c0_359 : Index := 0#32
  ![v921.toNat, v922.toNat, 0]
def k0_off7 (k0_t2 : Fin k0_t2_loop.trips) : Fin 3 → Nat :=
  let c1_364 : Index := 1#32
  let c0_365 : Index := 0#32
  let c0_i32_8 : BitVec 32 := 0#32
  let c1_i32_10 : BitVec 32 := 1#32
  let arg18 : BitVec 32 := Scf.iv c0_i32_8 c1_i32_10 k0_t2
  let c128_i32_363 : BitVec 32 := 128#32
  let v931 : BitVec 32 := Scalar.muli arg18 c128_i32_363
  let v932 : Index := Scalar.indexCast v931
  ![1, 0, v932.toNat]
def k0_off8 (i : grid0.Coords) : Fin 1 → Nat :=
  let arg0 : BitVec 32 := BitVec.ofNat 32 (i 0).val
  let v45 : Index := Scalar.indexCast arg0
  ![v45.toNat]
def k0_cond1 (i : grid0.Coords) : BitVec 1 :=
  let arg0 : BitVec 32 := BitVec.ofNat 32 (i 0).val
  let c11_i32 : BitVec 32 := 11#32
  let v18 : BitVec 1 := Scalar.cmpi .eq arg0 c11_i32
  let v19 : BitVec 32 := Scalar.extui v18
  let c0_i32_12 : BitVec 32 := 0#32
  let v20 : BitVec 1 := Scalar.cmpi .ne v19 c0_i32_12
  v20

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_10 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_11 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_12 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S12 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S12 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .smem S12 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2x1x768x1152 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S24x1152 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S24x1152 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S16x1152 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x16 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x16 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1x4x48x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x4x48x64 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x4x48x64 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S2x1x768x1152 .fp8e4m3 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S24x768 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== ReferenceIdeal.lean ====
abbrev S24x768x1152 : Shape := ⟨3, ![24, 768, 1152]⟩
abbrev S24x1152 : Shape := ⟨2, ![24, 1152]⟩
abbrev S1152x16 : Shape := ⟨2, ![1152, 16]⟩
abbrev S16 : Shape := ⟨1, ![16]⟩
abbrev S12 : Shape := ⟨1, ![12]⟩
abbrev S12x4x48x64 : Shape := ⟨4, ![12, 4, 48, 64]⟩
abbrev S2x12x768x1152 : Shape := ⟨4, ![2, 12, 768, 1152]⟩
abbrev S24x768 : Shape := ⟨2, ![24, 768]⟩
abbrev S24x768x1 : Shape := ⟨3, ![24, 768, 1]⟩
abbrev S24x1x1152 : Shape := ⟨3, ![24, 1, 1152]⟩
abbrev S1x1x254 : Shape := ⟨3, ![1, 1, 254]⟩
abbrev S24x768x254 : Shape := ⟨3, ![24, 768, 254]⟩
abbrev S24x768x16 : Shape := ⟨3, ![24, 768, 16]⟩
abbrev S1x1x16 : Shape := ⟨3, ![1, 1, 16]⟩
abbrev S12x768x16 : Shape := ⟨3, ![12, 768, 16]⟩
abbrev S12x1x1 : Shape := ⟨3, ![12, 1, 1]⟩
abbrev S12x24x32x2x2x4 : Shape := ⟨6, ![12, 24, 32, 2, 2, 4]⟩
abbrev S12x4x24x2x32x2 : Shape := ⟨6, ![12, 4, 24, 2, 32, 2]⟩
abbrev S12x1x1x1 : Shape := ⟨4, ![12, 1, 1, 1]⟩

abbrev nBuf : Space → Nat
  | .hbm => 14
  | .vmem => 14
  | .smem => 0
  | _ => 0

abbrev bufTy : (tb : Table) → Fin (tcTables nBuf tb) → BufTy
  | .hbm, ⟨0, _⟩ => ⟨S24x768x1152, .bf16⟩
  | .hbm, ⟨1, _⟩ => ⟨S24x1152, .f32⟩
  | .hbm, ⟨2, _⟩ => ⟨S24x1152, .f32⟩
  | .hbm, ⟨3, _⟩ => ⟨S1152x16, .fp8e4m3⟩
  | .hbm, ⟨4, _⟩ => ⟨S16, .f32⟩
  | .hbm, ⟨5, _⟩ => ⟨S16, .f32⟩
  | .hbm, ⟨6, _⟩ => ⟨S12, .f32⟩
  | .hbm, ⟨7, _⟩ => ⟨S12, .f32⟩
  | .hbm, ⟨8, _⟩ => ⟨S12, .f32⟩
  | .hbm, ⟨9, _⟩ => ⟨S12x4x48x64, .f32⟩
  | .hbm, ⟨10, _⟩ => ⟨S12x4x48x64, .f32⟩
  | .hbm, ⟨11, _⟩ => ⟨S12x4x48x64, .bf16⟩
  | .hbm, ⟨12, _⟩ => ⟨S2x12x768x1152, .fp8e4m3⟩
  | .hbm, ⟨13, _⟩ => ⟨S24x768, .f32⟩
  | .local _ .vmem, ⟨0, _⟩ => ⟨S24x768x1152, .bf16⟩
  | .local _ .vmem, ⟨1, _⟩ => ⟨S24x1152, .f32⟩
  | .local _ .vmem, ⟨2, _⟩ => ⟨S24x1152, .f32⟩
  | .local _ .vmem, ⟨3, _⟩ => ⟨S1152x16, .fp8e4m3⟩
  | .local _ .vmem, ⟨4, _⟩ => ⟨S16, .f32⟩
  | .local _ .vmem, ⟨5, _⟩ => ⟨S16, .f32⟩
  | .local _ .vmem, ⟨6, _⟩ => ⟨S12, .f32⟩
  | .local _ .vmem, ⟨7, _⟩ => ⟨S12, .f32⟩
  | .local _ .vmem, ⟨8, _⟩ => ⟨S12, .f32⟩
  | .local _ .vmem, ⟨9, _⟩ => ⟨S12x4x48x64, .f32⟩
  | .local _ .vmem, ⟨10, _⟩ => ⟨S12x4x48x64, .f32⟩
  | .local _ .vmem, ⟨11, _⟩ => ⟨S12x4x48x64, .bf16⟩
  | .local _ .vmem, ⟨12, _⟩ => ⟨S2x12x768x1152, .fp8e4m3⟩
  | .local _ .vmem, ⟨13, _⟩ => ⟨S24x768, .f32⟩
  | _, _ => ⟨S24x768x1152, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0_0 : Ref sig .tc := ⟨.hbm, 10, rfl⟩
abbrev main_v0_1 : Ref sig .tc := ⟨.hbm, 11, rfl⟩
abbrev main_v0_2 : Ref sig .tc := ⟨.hbm, 12, rfl⟩
abbrev main_v0_3 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13

abbrev nD : Nat := 1
abbrev τ : Topo := Topo.v7x

variable {F : FTy → Type} [FloatOps F]

abbrev grid0 : Pipeline.Grid := .none

abbrev stage0_0 : Fin 1 → Memref sig .tc .vmem S24x768x1152 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S24x1152 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S24x1152 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1152x16 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S12 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S12 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S12 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S12x4x48x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S12x4x48x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S12x4x48x64 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S2x12x768x1152 .fp8e4m3 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S24x768 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
-- ==== Proof.KernelFrame.lean ====
/-
  Hand-written, untrusted. `Kernel`'s frame: the body run once per case of its last-point condition by `sl_exec`, its two
  chunk loops by their generated invariants; the four outputs are FORGOTTEN (the frame reads nothing of them), every
  input is handed back as it was found, the three scratch buffers at some contents.
-/
module

public import proofs.«01_k».proof.Proof.Gen.Kernel.Frame
public import proofs.«01_k».proof.Proof.Gen.Kernel.Launch
public import proofs.«01_k».proof.Proof.Gen.Kernel.Loops
public import proofs.«01_k».proof.Proof.Gen.Kernel.Points
public import proofs.«01_k».proof.Proof.Gen.Kernel.Skeleton
public import Idealize.ShloMosaic.Lib.Pipeline.FrameBody
public import Idealize.ShloMosaic.Lib.Pipeline.Frame
public import Idealize.ShloMosaic.Lib.Tactic

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body's triple, for any continuation: from every input at its contents and every output and scratch at anything,
    the kernel runs to its return and hands the inputs back unchanged, the outputs and scratch at some contents. -/
theorem kernelRun (c : Dev nD) (i : grid0.Coords) (arg1 : Memref sig .tc .smem S12 .f32) (harg1 : arg1.IsWhole) (arg2 : Memref sig .tc .smem S12 .f32) (harg2 : arg2.IsWhole) (arg3 : Memref sig .tc .smem S12 .f32) (harg3 : arg3.IsWhole) (arg4 : Memref sig .tc .vmem S2x1x768x1152 .bf16) (harg4 : arg4.IsWhole) (arg5 : Memref sig .tc .vmem S24x1152 .f32) (harg5 : arg5.IsWhole) (arg6 : Memref sig .tc .vmem S24x1152 .f32) (harg6 : arg6.IsWhole) (arg7 : Memref sig .tc .vmem S16x1152 .fp8e4m3) (harg7 : arg7.IsWhole) (arg8 : Memref sig .tc .vmem S1x16 .f32) (harg8 : arg8.IsWhole) (arg9 : Memref sig .tc .vmem S1x16 .f32) (harg9 : arg9.IsWhole) (arg10 : Memref sig .tc .vmem S1x4x48x64 .f32) (harg10 : arg10.IsWhole) (arg11 : Memref sig .tc .vmem S1x4x48x64 .f32) (harg11 : arg11.IsWhole) (arg12 : Memref sig .tc .vmem S1x4x48x64 .bf16) (harg12 : arg12.IsWhole) (arg13 : Memref sig .tc .vmem S2x1x768x1152 .fp8e4m3) (harg13 : arg13.IsWhole) (arg14 : Memref sig .tc .vmem S24x768 .f32) (harg14 : arg14.IsWhole) (arg15 : Memref sig .tc .vmem S2x16x768 .f32) (harg15 : arg15.IsWhole) (arg16 : Memref sig .tc .vmem S6x24x128 .f32) (harg16 : arg16.IsWhole) (arg17 : Memref sig .tc .vmem S4x48x64 .f32) (harg17 : arg17.IsWhole)
    (x1 : S12.Idx → Elt F .f32) (x2 : S12.Idx → Elt F .f32) (x3 : S12.Idx → Elt F .f32) (x4 : S2x1x768x1152.Idx → Elt F .bf16) (x5 : S24x1152.Idx → Elt F .f32) (x6 : S24x1152.Idx → Elt F .f32) (x7 : S16x1152.Idx → Elt F .fp8e4m3) (x8 : S1x16.Idx → Elt F .f32) (x9 : S1x16.Idx → Elt F .f32) (x10 : S1x4x48x64.Idx → Elt F .f32) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)) -∗ K ⟨⟩))
      ⊢ wp frame (wpE (defs₀ (F := F)) Variants.none c none) Set.univ
          (cc0_dit_final (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc0_dit_final_eq_skeleton]; unfold cc0_dit_final_skel
  unfold owns
  iintro ⟨⟨%f1, %h1, H1⟩, ⟨%f2, %h2, H2⟩, ⟨%f3, %h3, H3⟩, ⟨%f4, %h4, H4⟩, ⟨%f5, %h5, H5⟩, ⟨%f6, %h6, H6⟩, ⟨%f7, %h7, H7⟩, ⟨%f8, %h8, H8⟩, ⟨%f9, %h9, H9⟩, ⟨%f10, %h10, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, Hk⟩
  by_cases hc : k0_cond1 i = 1#1
  all_goals
  sl_exec (disch := sl_exact hc)
  sl_step
  iapply Hk
  isplitl [H1]
  · iexists _; isplitr; swap; · iexact H1
    ipureintro; exact h1
  isplitl [H2]
  · iexists _; isplitr; swap; · iexact H2
    ipureintro; exact h2
  isplitl [H3]
  · iexists _; isplitr; swap; · iexact H3
    ipureintro; exact h3
  isplitl [H4]
  · iexists _; isplitr; swap; · iexact H4
    ipureintro; exact h4
  isplitl [H5]
  · iexists _; isplitr; swap; · iexact H5
    ipureintro; exact h5
  isplitl [H6]
  · iexists _; isplitr; swap; · iexact H6
    ipureintro; exact h6
  isplitl [H7]
  · iexists _; isplitr; swap; · iexact H7
    ipureintro; exact h7
  isplitl [H8]
  · iexists _; isplitr; swap; · iexact H8
    ipureintro; exact h8
  isplitl [H9]
  · iexists _; isplitr; swap; · iexact H9
    ipureintro; exact h9
  isplitl [H10]
  · iexists _; isplitr; swap; · iexact H10
    ipureintro; exact h10
  isplitl [H11]
  · iexists _, _; isplitr; swap; · iexact H11
    ipureintro; rfl
  isplitl [H12]
  · iexists _, _; isplitr; swap; · iexact H12
    ipureintro; rfl
  isplitl [H13]
  · iexists _, _; isplitr; swap; · iexact H13
    ipureintro; rfl
  isplitl [H14]
  · iexists _, _; isplitr; swap; · iexact H14
    ipureintro; rfl
  isplitl [H15]
  · iexists _, _; isplitr; swap; · iexact H15
    ipureintro; rfl
  isplitl [H16]
  · iexists _, _; isplitr; swap; · iexact H16
    ipureintro; rfl
  iexists _, _; isplitr; swap; · iexact H17
  ipureintro; rfl

/-! ## The proof data and the body obligation -/

/-- The four outputs, windows 10 to 13, FORGOTTEN: the frame reads nothing of what the kernel leaves in them. -/
def forgets0 : Fin 14 → Bool
  | ⟨0, _⟩ => false | ⟨1, _⟩ => false | ⟨2, _⟩ => false | ⟨3, _⟩ => false | ⟨4, _⟩ => false
  | ⟨5, _⟩ => false | ⟨6, _⟩ => false | ⟨7, _⟩ => false | ⟨8, _⟩ => false | ⟨9, _⟩ => false
  | ⟨10, _⟩ => true | ⟨11, _⟩ => true | ⟨12, _⟩ => true | ⟨13, _⟩ => true

/-- The proof data on core `c`: every array as the region finds it; every input's block left in place; what the body leaves
    in an output unnamed; the scratch at some contents; full shares; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => Pipeline.Dat.unnamed (cfg := cfg0) 10 t
    | ⟨11, _⟩ => Pipeline.Dat.unnamed (cfg := cfg0) 11 t
    | ⟨12, _⟩ => Pipeline.Dat.unnamed (cfg := cfg0) 12 t
    | ⟨13, _⟩ => Pipeline.Dat.unnamed (cfg := cfg0) 13 t
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

/-- What the body leaves in each input's buffer is its block. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]

/-- Each input's current staging buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d

/-- What the body is called with at point `t`: the invariant, the core's `owes`, each input's memref at its contents, each
    output's at anything. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ d, owns (c : Thread nD τ) (st0_6 t) fullShare ((dats m 0 c).before 6 t d)) ∗ (∃ d, owns (c : Thread nD τ) (st0_7 t) fullShare ((dats m 0 c).before 7 t d)) ∗ (∃ d, owns (c : Thread nD τ) (st0_8 t) fullShare ((dats m 0 c).before 8 t d)) ∗ (∃ d, owns (c : Thread nD τ) (st0_9 t) fullShare ((dats m 0 c).before 9 t d)) ∗ (∃ d, owns (c : Thread nD τ) (st0_10 t) fullShare d) ∗ (∃ d, owns (c : Thread nD τ) (st0_11 t) fullShare d) ∗ (∃ d, owns (c : Thread nD τ) (st0_12 t) fullShare d) ∗ (∃ d, owns (c : Thread nD τ) (st0_13 t) fullShare d))
/-- What the body returns at point `t`. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t) ∗ owns (c : Thread nD τ) (st0_5 t) fullShare ((dats m 0 c).after 5 t) ∗ owns (c : Thread nD τ) (st0_6 t) fullShare ((dats m 0 c).after 6 t) ∗ owns (c : Thread nD τ) (st0_7 t) fullShare ((dats m 0 c).after 7 t) ∗ owns (c : Thread nD τ) (st0_8 t) fullShare ((dats m 0 c).after 8 t) ∗ owns (c : Thread nD τ) (st0_9 t) fullShare ((dats m 0 c).after 9 t) ∗ (∃ d, owns (c : Thread nD τ) (st0_10 t) fullShare d) ∗ (∃ d, owns (c : Thread nD τ) (st0_11 t) fullShare d) ∗ (∃ d, owns (c : Thread nD τ) (st0_12 t) fullShare d) ∗ (∃ d, owns (c : Thread nD τ) (st0_13 t) fullShare d))

/-- The invariant between points: the three scratch buffers at some contents and the generator register at some state. -/
theorem PhiA_eq (c : Dev nD) :
    (Pipeline.ΦA spec0 c : sProp 𝕄)
      = iprop(iprop((∃ d, owns (c : Thread nD τ) (Memref.whole cc0_scratch0) fullShare d)
          ∗ (∃ d, owns (c : Thread nD τ) (Memref.whole cc0_scratch1) fullShare d)
          ∗ (∃ d, owns (c : Thread nD τ) (Memref.whole cc0_scratch2) fullShare d)) ∗ (∃ r, prngReg c r)) := by
  unfold Pipeline.ΦA
  rw [scopedRest0_eq]; simp only [owns_whole]; try rfl

set_option maxHeartbeats 1000000 in
/-- The body at any point: the inputs' memrefs hold their blocks, the scratch is taken out of the invariant, `kernelRun`
    applies, and the scratch goes back into the invariant. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9]
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, PhiA_eq,
    after0_0, after0_1, after0_2, after0_3, after0_4, after0_5, after0_6, after0_7, after0_8, after0_9]
  iintro ⟨⟨⟨S0, S1, S2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, H10, H11, H12, H13⟩
  iapply (kernelRun c (grid0.coords t) _ _ _ _ _ _ _ _ _ _ _ _ _ _ _ _ _ _ _ _ _ _ _ _ _ _ _ _ _ _ _ _ _ _
    (iblk m c 0 t) (iblk m c 1 t) (iblk m c 2 t) (iblk m c 3 t) (iblk m c 4 t) (iblk m c 5 t) (iblk m c 6 t) (iblk m c 7 t) (iblk m c 8 t) (iblk m c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [S0]; · iexact S0
  isplitl [S1]; · iexact S1
  isplitl [S2]; · iexact S2
  iintro ⟨H0, H1, H2, H3, H4, H5, H6, H7, H8, H9, H10, H11, H12, H13, S0, S1, S2⟩
  isplitl [S0 S1 S2 Hg]
  · isplitl [S0 S1 S2]
    · isplitl [S0]; · iexact S0
      isplitl [S1]; · iexact S1
      iexact S2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

/-- The body table's row at point `t`'s slots is the body as `bodyAt0` spells it. -/
theorem defs₀_row (t : Fin cfg0.N) : defs₀ (F := F) .tc cfg0.body (cfg0.bodyArgs t (cfg0.slots t)) = bodyAt0 t := by
  unfold defs₀; rw [Defs.onTc_tc]

/-- The library's body obligation with the outputs forgotten. -/
theorem body_obligation (c : Dev nD) :
    BodyObligation (dats (F := F) m 0 c) (defs₀ (F := F)) Variants.none () Set.univ forgets0 := fun t => by
  rw [bigSep_W0, bigSep_W0, defs₀_row]
  exact triple_restated (sound_body m c t) rfl .rfl fun _ => .rfl

/-! ## The launch -/

-- the theorem's implicit arguments are found by unifying its conclusion with this statement, which takes unfolding plain
-- definitions in a metavariable's type
set_option backward.isDefEq.respectTransparency.types false in
set_option maxHeartbeats 800000 in
/-- Every weakly fair execution of @main terminates; every final state has every buffer that is no output at its contents at
    the region's entry and every semaphore counter at zero. -/
theorem run_main :
    θ_run defs (onTc (τ := τ) (main (F := F))) (s₀ m ρ)
      (fun r => Pipeline.RDat.FramePost (cfgs 0) (fun c => (dats m 0 c).toRForget forgets0) (V m) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m)
    (hΦ := fun _ _ => rfl)

/-- An input window's array ends at its entry contents. -/
theorem final_in {r : PUnit × MemSt nD τ sig (Elt F)}
    (h : Pipeline.RDat.FramePost (cfgs 0) (fun c => (dats (F := F) m 0 c).toRForget forgets0) (V m) r) (c : Dev nD)
    (w : Fin cfg0.W) (hin : (cfg0.win w).isOut = false) :
    r.2.mem ((cfg0.spec w).arr.view.loc (c.tc : Thread nD τ)) = V m c (Pipeline.arrRef spec0 w) :=
  (Pipeline.RDat.FramePost.arr_in h c w hin).trans (A_eq m c w)

/-- THE FRAME: every weakly fair execution of @main terminates, its argument arrays end unchanged and every semaphore
    counter ends at zero. -/
theorem frame :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  (θ_run defs _ _).mono (fun _ h => ⟨fun c => ⟨((h.1 c).2 main_arg0 (Pipeline.mem_restRefs_of main_arg0 (by decide) (by decide))).trans (V_main_arg0 m c),
    (final_in m h.1 c 4 rfl).trans (V_main_arg1 m c),
    (final_in m h.1 c 5 rfl).trans (V_main_arg2 m c),
    ((h.1 c).2 main_arg3 (Pipeline.mem_restRefs_of main_arg3 (by decide) (by decide))).trans (V_main_arg3 m c),
    ((h.1 c).2 main_arg4 (Pipeline.mem_restRefs_of main_arg4 (by decide) (by decide))).trans (V_main_arg4 m c),
    ((h.1 c).2 main_arg5 (Pipeline.mem_restRefs_of main_arg5 (by decide) (by decide))).trans (V_main_arg5 m c),
    (final_in m h.1 c 0 rfl).trans (V_main_arg6 m c),
    (final_in m h.1 c 1 rfl).trans (V_main_arg7 m c),
    (final_in m h.1 c 2 rfl).trans (V_main_arg8 m c),
    (final_in m h.1 c 9 rfl).trans (V_main_arg9 m c)⟩, h.2⟩) (run_main m ρ)

end Cert.Kernel.Hand

end
-- ==== Proof.KLoops.lean ====
/-
  Hand-written, untrusted. What the two chunk loops of the kernel leave in the buffers they write, in closed form.
-/
module

public import proofs.«01_k».proof.Proof.Gen.KernelIdeal.Frame
public import proofs.«01_k».proof.Proof.Gen.KernelIdeal.Launch
public import proofs.«01_k».proof.Proof.Gen.KernelIdeal.Loops
public import proofs.«01_k».proof.Proof.Gen.KernelIdeal.Points
public import proofs.«01_k».proof.Proof.Gen.KernelIdeal.Skeleton
public import Idealize.ShloMosaic.Lib.Pipeline.FrameBody
public import Idealize.ShloMosaic.Lib.Pipeline.Frame
public import Idealize.ShloMosaic.Lib.Pipeline.Value
public import Idealize.ShloMosaic.Lib.WritesUnit
public import Idealize.ShloMosaic.Lib.Pointwise
public import Idealize.ShloMosaic.Lib.Tactic

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## One chunk of 128 pixel rows -/

/-- The chunk a pixel row lies in. -/
def kk (j : Fin 768) : Fin 6 := ⟨j.val / 128, by omega⟩
/-- Its place within the chunk. -/
def rr (j : Fin 768) : Fin 128 := ⟨j.val % 128, by omega⟩

/-- Chunk `k` of half `h` of the point's two images. -/
def chunk (x : S2x1x768x1152.Idx → Elt F .bf16) (h : Fin 2) (k : Fin 6) : Vec F S1x1x128x1152 .bf16 := fun z =>
  x (ix4 h 0 ⟨128 * k.val + (z (2 : Fin 4)).val, by
    have h : (z (2 : Fin 4)).val < 128 := (z (2 : Fin 4)).isLt
    have := k.isLt
    omega⟩ (z (3 : Fin 4) : Fin 1152))

/-- The normalised and modulated rows of a chunk, from the scale row `s`, the shift row `b` and the chunk `X`. -/
def hC (s b : Vec F S1x1152 .f32) (X : Vec F S1x1x128x1152 .bf16) : FVec F S128x1152 .f32 := k0_pay3 (k0_pay23 s) b X
/-- The rows' scales, each spread over 128 lanes. -/
def scC (s b : Vec F S1x1152 .f32) (X : Vec F S1x1x128x1152 .bf16) : FVec F S128x128 .f32 :=
  k0_pay11 (k0_pay4 (k0_pay23 s) b X) (k0_pay5 (k0_pay23 s) b X)
    (k0_pay8 (k0_pay5 (k0_pay23 s) b X) (k0_pay6 (k0_pay23 s) b X) k0_pay7) k0_pay9
/-- The rows' reciprocal scales, each spread over 128 lanes. -/
def inC (s b : Vec F S1x1152 .f32) (X : Vec F S1x1x128x1152 .bf16) : FVec F S128x128 .f32 :=
  k0_pay12 (k0_pay4 (k0_pay23 s) b X) (k0_pay5 (k0_pay23 s) b X)
    (k0_pay8 (k0_pay5 (k0_pay23 s) b X) (k0_pay6 (k0_pay23 s) b X) k0_pay7) k0_pay9
/-- The chunk's codes, as stored. -/
def codesC (s b : Vec F S1x1152 .f32) (X : Vec F S1x1x128x1152 .bf16) : FVec F S1x1x128x1152 .fp8e4m3 :=
  k0_pay25 (hC s b X) (inC s b X)
/-- The chunk's scales as a row, as stored. -/
def srowC (s b : Vec F S1x1152 .f32) (X : Vec F S1x1x128x1152 .bf16) : FVec F S1x1x128 .f32 := k0_pay27 (scC s b X)
/-- The chunk's products with the weights, scaled, as stored. -/
def yC (s b : Vec F S1x1152 .f32) (X : Vec F S1x1x128x1152 .bf16) (w : Vec F S16x1152 .fp8e4m3) : FVec F S1x16x128 .f32 :=
  k0_pay28 (hC s b X) (scC s b X) (inC s b X) w

section Trips

variable (c : Dev nD) (i : grid0.Coords) (arg1 : Memref sig .tc .smem S12 .f32) (harg1 : arg1.IsWhole) (arg2 : Memref sig .tc .smem S12 .f32) (harg2 : arg2.IsWhole) (arg3 : Memref sig .tc .smem S12 .f32) (harg3 : arg3.IsWhole) (arg4 : Memref sig .tc .vmem S2x1x768x1152 .bf16) (harg4 : arg4.IsWhole) (arg5 : Memref sig .tc .vmem S24x1152 .f32) (harg5 : arg5.IsWhole) (arg6 : Memref sig .tc .vmem S24x1152 .f32) (harg6 : arg6.IsWhole) (arg7 : Memref sig .tc .vmem S16x1152 .fp8e4m3) (harg7 : arg7.IsWhole) (arg8 : Memref sig .tc .vmem S1x16 .f32) (harg8 : arg8.IsWhole) (arg9 : Memref sig .tc .vmem S1x16 .f32) (harg9 : arg9.IsWhole) (arg10 : Memref sig .tc .vmem S1x4x48x64 .f32) (harg10 : arg10.IsWhole) (arg11 : Memref sig .tc .vmem S1x4x48x64 .f32) (harg11 : arg11.IsWhole) (arg12 : Memref sig .tc .vmem S1x4x48x64 .bf16) (harg12 : arg12.IsWhole) (arg13 : Memref sig .tc .vmem S2x1x768x1152 .fp8e4m3) (harg13 : arg13.IsWhole) (arg14 : Memref sig .tc .vmem S24x768 .f32) (harg14 : arg14.IsWhole) (arg15 : Memref sig .tc .vmem S2x16x768 .f32) (harg15 : arg15.IsWhole) (arg16 : Memref sig .tc .vmem S6x24x128 .f32) (harg16 : arg16.IsWhole) (arg17 : Memref sig .tc .vmem S4x48x64 .f32) (harg17 : arg17.IsWhole)

/-- The pieces one trip of the first loop writes. -/
theorem trip1_eq (v2 v7 : Vec F S1x1152 .f32) (X4 : BufTy.Contents (Elt F) arg4.view.ty) (X7 : BufTy.Contents (Elt F) arg7.view.ty)
    (k : Fin k0_t1_loop.trips) :
    tripL_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v2 v7 X4 X7 k
      = ([⟨Rect.unit (s := S2x1x768x1152) (k0_off2 k) S1x1x128x1152.size (k0_off2_inb k),
            codesC v2 v7 (View.ld (arg4.view.read (Elt F) X4) (Rect.unit (s := S2x1x768x1152) (k0_off2 k) S1x1x128x1152.size (k0_off2_inb k)))⟩],
         [⟨Rect.unit (s := S2x16x768) (k0_off4 k) S1x16x128.size (k0_off4_inb k),
            yC v2 v7 (View.ld (arg4.view.read (Elt F) X4) (Rect.unit (s := S2x1x768x1152) (k0_off2 k) S1x1x128x1152.size (k0_off2_inb k)))
              (View.ld (arg7.view.read (Elt F) X7) (Rect.unit (s := S16x1152) ![0, 0] S16x1152.size inb_S16x1152_S16x1152_0_0))⟩],
         [⟨Rect.unit (s := S6x24x128) (k0_off3 i k) S1x1x128.size (k0_off3_inb i k),
            srowC v2 v7 (View.ld (arg4.view.read (Elt F) X4) (Rect.unit (s := S2x1x768x1152) (k0_off2 k) S1x1x128x1152.size (k0_off2_inb k)))⟩]) := by
  unfold tripL_k0_t1 trip_k0_t1
  rfl

/-- The pieces one trip of the second loop writes: the same functions of the second half's rows. -/
theorem trip2_eq (v2 v7 : Vec F S1x1152 .f32) (X4 : BufTy.Contents (Elt F) arg4.view.ty) (X7 : BufTy.Contents (Elt F) arg7.view.ty)
    (k : Fin k0_t2_loop.trips) :
    tripL_k0_t2 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v2 v7 X4 X7 k
      = ([⟨Rect.unit (s := S2x1x768x1152) (k0_off5 k) S1x1x128x1152.size (k0_off5_inb k),
            codesC v2 v7 (View.ld (arg4.view.read (Elt F) X4) (Rect.unit (s := S2x1x768x1152) (k0_off5 k) S1x1x128x1152.size (k0_off5_inb k)))⟩],
         [⟨Rect.unit (s := S2x16x768) (k0_off7 k) S1x16x128.size (k0_off7_inb k),
            yC v2 v7 (View.ld (arg4.view.read (Elt F) X4) (Rect.unit (s := S2x1x768x1152) (k0_off5 k) S1x1x128x1152.size (k0_off5_inb k)))
              (View.ld (arg7.view.read (Elt F) X7) (Rect.unit (s := S16x1152) ![0, 0] S16x1152.size inb_S16x1152_S16x1152_0_0))⟩],
         [⟨Rect.unit (s := S6x24x128) (k0_off6 i k) S1x1x128.size (k0_off6_inb i k),
            srowC v2 v7 (View.ld (arg4.view.read (Elt F) X4) (Rect.unit (s := S2x1x768x1152) (k0_off5 k) S1x1x128x1152.size (k0_off5_inb k)))⟩]) := by
  unfold tripL_k0_t2 trip_k0_t2
  rfl

theorem trips1 : k0_t1_loop.trips = 6 := by decide
theorem trips2 : k0_t2_loop.trips = 6 := by decide

/-- What a trip of the first loop loads of the activations is its chunk of the first half. -/
theorem ld_chunk1 (x : S2x1x768x1152.Idx → Elt F .bf16) (k : Fin k0_t1_loop.trips) (k' : Fin 6) (hk : k.val = k'.val) :
    View.ld x (Rect.unit (s := S2x1x768x1152) (k0_off2 k) S1x1x128x1152.size (k0_off2_inb k)) = chunk x 0 k' := by
  funext z
  refine congrArg x (funext fun a => Fin.ext ?_)
  show k0_off2 k a + 1 * (z a).val = _
  rw [show k0_off2 k a = _ from congrFun (k0_off2_eq k) a, hk]
  have h0 : (z (0 : Fin 4)).val < 1 := (z (0 : Fin 4)).isLt
  have h1 : (z (1 : Fin 4)).val < 1 := (z (1 : Fin 4)).isLt
  match a with
  | ⟨0, _⟩ => show 0 + 1 * (z (0 : Fin 4)).val = 0; omega
  | ⟨1, _⟩ => show 0 + 1 * (z (1 : Fin 4)).val = 0; omega
  | ⟨2, _⟩ => show 128 * k'.val + 1 * (z (2 : Fin 4)).val = 128 * k'.val + (z (2 : Fin 4)).val; omega
  | ⟨3, _⟩ => show 0 + 1 * (z (3 : Fin 4)).val = (z (3 : Fin 4)).val; omega

/-- And of the second loop, of the second half. -/
theorem ld_chunk2 (x : S2x1x768x1152.Idx → Elt F .bf16) (k : Fin k0_t2_loop.trips) (k' : Fin 6) (hk : k.val = k'.val) :
    View.ld x (Rect.unit (s := S2x1x768x1152) (k0_off5 k) S1x1x128x1152.size (k0_off5_inb k)) = chunk x 1 k' := by
  funext z
  refine congrArg x (funext fun a => Fin.ext ?_)
  show k0_off5 k a + 1 * (z a).val = _
  rw [show k0_off5 k a = _ from congrFun (k0_off5_eq k) a, hk]
  have h0 : (z (0 : Fin 4)).val < 1 := (z (0 : Fin 4)).isLt
  have h1 : (z (1 : Fin 4)).val < 1 := (z (1 : Fin 4)).isLt
  match a with
  | ⟨0, _⟩ => show 1 + 1 * (z (0 : Fin 4)).val = 1; omega
  | ⟨1, _⟩ => show 0 + 1 * (z (1 : Fin 4)).val = 0; omega
  | ⟨2, _⟩ => show 128 * k'.val + 1 * (z (2 : Fin 4)).val = 128 * k'.val + (z (2 : Fin 4)).val; omega
  | ⟨3, _⟩ => show 0 + 1 * (z (3 : Fin 4)).val = (z (3 : Fin 4)).val; omega

/-- A load of the whole weight matrix reads it. -/
theorem ld_w (w : S16x1152.Idx → Elt F .fp8e4m3) :
    View.ld w (Rect.unit (s := S16x1152) ![0, 0] S16x1152.size inb_S16x1152_S16x1152_0_0) = w := by
  exact View.ld_unit_zero (S := S16x1152) (show (![0, 0] : Fin 2 → ℕ) = fun _ => 0 by funext a; match a with | ⟨0, _⟩ => rfl | ⟨1, _⟩ => rfl) _ _

/-- The pieces of the first `n` trips of loop 1, one tile a trip. -/
theorem pb1_tiles (v2 v7 : Vec F S1x1152 .f32) (X4 : BufTy.Contents (Elt F) arg4.view.ty) (X7 : BufTy.Contents (Elt F) arg7.view.ty)
    (n : ℕ) (hn : n ≤ k0_t1_loop.trips) :
    pb_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v2 v7 X4 X7 n
      = (View.tilePieces (s := S2x1x768x1152) S1x1x128x1152.size (fun k => k0_off2 k) (fun k => k0_off2_inb k)
            (fun k => codesC v2 v7 (chunk (arg4.view.read (Elt F) X4) 0 ⟨k.val, lt_of_lt_of_eq k.isLt trips1⟩)) n hn,
         View.tilePieces (s := S2x16x768) S1x16x128.size (fun k => k0_off4 k) (fun k => k0_off4_inb k)
            (fun k => yC v2 v7 (chunk (arg4.view.read (Elt F) X4) 0 ⟨k.val, lt_of_lt_of_eq k.isLt trips1⟩) (arg7.view.read (Elt F) X7)) n hn,
         View.tilePieces (s := S6x24x128) S1x1x128.size (fun k => k0_off3 i k) (fun k => k0_off3_inb i k)
            (fun k => srowC v2 v7 (chunk (arg4.view.read (Elt F) X4) 0 ⟨k.val, lt_of_lt_of_eq k.isLt trips1⟩)) n hn) := by
  induction n with
  | zero => rfl
  | succ n ih =>
    have hs := pb_k0_t1_succ (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v2 v7 X4 X7 ⟨n, hn⟩
    rw [trip1_eq, ih (Nat.le_of_succ_le hn), ld_chunk1 _ ⟨n, hn⟩ ⟨n, by rw [← trips1]; exact hn⟩ rfl, ld_w] at hs
    exact hs

/-- Half 0 of the codes after loop 1. -/
theorem codes1_hit (v2 v7 : Vec F S1x1152 .f32) (X4 : BufTy.Contents (Elt F) arg4.view.ty) (X7 : BufTy.Contents (Elt F) arg7.view.ty)
    (f : BufTy.Contents (Elt F) arg13.view.ty) (y : S2x1x768x1152.Idx) (hy : (y (0 : Fin 4)).val = 0) :
    arg13.view.read (Elt F) (arg13.view.writes (Elt F) f (pb_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v2 v7 X4 X7 k0_t1_loop.trips).1) y
      = codesC v2 v7 (chunk (arg4.view.read (Elt F) X4) 0 (kk (y (2 : Fin 4)))) (ix4 0 0 (rr (y (2 : Fin 4))) (y (3 : Fin 4))) := by
  have hk : (kk (y (2 : Fin 4))).val < k0_t1_loop.trips := by rw [trips1]; exact (kk (y (2 : Fin 4))).isLt
  have h1 : (y (1 : Fin 4)).val < 1 := (y (1 : Fin 4)).isLt
  have h2 : (y (2 : Fin 4)).val < 768 := (y (2 : Fin 4)).isLt
  rw [pb1_tiles c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v2 v7 X4 X7 _ le_rfl]
  refine (View.read_tilePieces _ _ _ _ _ _ _ _ y ⟨(kk (y (2 : Fin 4))).val, hk⟩ hk (ix4 0 0 (rr (y (2 : Fin 4))) (y (3 : Fin 4))) ?_ (2 : Fin 4) ?_).trans rfl
  · intro a
    rw [k0_off2_eq]
    match a with
    | ⟨0, _⟩ => show (y (0 : Fin 4)).val = 0 + 0; omega
    | ⟨1, _⟩ => show (y (1 : Fin 4)).val = 0 + 0; omega
    | ⟨2, _⟩ => show (y (2 : Fin 4)).val = 128 * ((y (2 : Fin 4)).val / 128) + (y (2 : Fin 4)).val % 128; omega
    | ⟨3, _⟩ => show (y (3 : Fin 4)).val = 0 + (y (3 : Fin 4)).val; omega
  · intro k' hne
    have hne' : k'.val ≠ (y (2 : Fin 4)).val / 128 := fun h => hne (Fin.ext h)
    rw [k0_off2_eq]
    show (y (2 : Fin 4)).val < 128 * k'.val ∨ 128 * k'.val + 128 ≤ (y (2 : Fin 4)).val
    omega

/-- Loop 1 leaves the other half of the codes. -/
theorem codes1_miss (v2 v7 : Vec F S1x1152 .f32) (X4 : BufTy.Contents (Elt F) arg4.view.ty) (X7 : BufTy.Contents (Elt F) arg7.view.ty)
    (f : BufTy.Contents (Elt F) arg13.view.ty) (y : S2x1x768x1152.Idx) (hy : (y (0 : Fin 4)).val ≠ 0) :
    arg13.view.read (Elt F) (arg13.view.writes (Elt F) f (pb_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v2 v7 X4 X7 k0_t1_loop.trips).1) y
      = arg13.view.read (Elt F) f y := by
  rw [pb1_tiles c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v2 v7 X4 X7 _ le_rfl]
  refine View.read_tilePieces_miss _ _ _ _ _ _ _ _ y (0 : Fin 4) fun k' _ => ?_
  rw [k0_off2_eq]
  show (y (0 : Fin 4)).val < 0 ∨ 0 + 1 ≤ (y (0 : Fin 4)).val
  omega

/-- Half 0 of the scaled products after loop 1. -/
theorem y1_hit (v2 v7 : Vec F S1x1152 .f32) (X4 : BufTy.Contents (Elt F) arg4.view.ty) (X7 : BufTy.Contents (Elt F) arg7.view.ty)
    (f : BufTy.Contents (Elt F) arg15.view.ty) (y : S2x16x768.Idx) (hy : (y (0 : Fin 3)).val = 0) :
    arg15.view.read (Elt F) (arg15.view.writes (Elt F) f (pb_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v2 v7 X4 X7 k0_t1_loop.trips).2.1) y
      = yC v2 v7 (chunk (arg4.view.read (Elt F) X4) 0 (kk (y (2 : Fin 3)))) (arg7.view.read (Elt F) X7) (ix3 0 (y (1 : Fin 3)) (rr (y (2 : Fin 3)))) := by
  have hk : (kk (y (2 : Fin 3))).val < k0_t1_loop.trips := by rw [trips1]; exact (kk (y (2 : Fin 3))).isLt
  have h2 : (y (2 : Fin 3)).val < 768 := (y (2 : Fin 3)).isLt
  rw [pb1_tiles c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v2 v7 X4 X7 _ le_rfl]
  refine (View.read_tilePieces _ _ _ _ _ _ _ _ y ⟨(kk (y (2 : Fin 3))).val, hk⟩ hk (ix3 0 (y (1 : Fin 3)) (rr (y (2 : Fin 3)))) ?_ (2 : Fin 3) ?_).trans rfl
  · intro a
    rw [k0_off4_eq]
    match a with
    | ⟨0, _⟩ => show (y (0 : Fin 3)).val = 0 + 0; omega
    | ⟨1, _⟩ => show (y (1 : Fin 3)).val = 0 + (y (1 : Fin 3)).val; omega
    | ⟨2, _⟩ => show (y (2 : Fin 3)).val = 128 * ((y (2 : Fin 3)).val / 128) + (y (2 : Fin 3)).val % 128; omega
  · intro k' hne
    have hne' : k'.val ≠ (y (2 : Fin 3)).val / 128 := fun h => hne (Fin.ext h)
    rw [k0_off4_eq]
    show (y (2 : Fin 3)).val < 128 * k'.val ∨ 128 * k'.val + 128 ≤ (y (2 : Fin 3)).val
    omega

/-- Loop 1 leaves the other half of the products. -/
theorem y1_miss (v2 v7 : Vec F S1x1152 .f32) (X4 : BufTy.Contents (Elt F) arg4.view.ty) (X7 : BufTy.Contents (Elt F) arg7.view.ty)
    (f : BufTy.Contents (Elt F) arg15.view.ty) (y : S2x16x768.Idx) (hy : (y (0 : Fin 3)).val ≠ 0) :
    arg15.view.read (Elt F) (arg15.view.writes (Elt F) f (pb_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v2 v7 X4 X7 k0_t1_loop.trips).2.1) y
      = arg15.view.read (Elt F) f y := by
  rw [pb1_tiles c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v2 v7 X4 X7 _ le_rfl]
  refine View.read_tilePieces_miss _ _ _ _ _ _ _ _ y (0 : Fin 3) fun k' _ => ?_
  rw [k0_off4_eq]
  show (y (0 : Fin 3)).val < 0 ∨ 0 + 1 ≤ (y (0 : Fin 3)).val
  omega

/-- The image's row of the scales after loop 1. -/
theorem s1_hit (v2 v7 : Vec F S1x1152 .f32) (X4 : BufTy.Contents (Elt F) arg4.view.ty) (X7 : BufTy.Contents (Elt F) arg7.view.ty)
    (f : BufTy.Contents (Elt F) arg16.view.ty) (y : S6x24x128.Idx) (hy : (y (1 : Fin 3)).val = 0 + (i 0).val) :
    arg16.view.read (Elt F) (arg16.view.writes (Elt F) f (pb_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v2 v7 X4 X7 k0_t1_loop.trips).2.2) y
      = srowC v2 v7 (chunk (arg4.view.read (Elt F) X4) 0 (y (0 : Fin 3))) (ix3 0 0 (y (2 : Fin 3))) := by
  have hk : (y (0 : Fin 3)).val < k0_t1_loop.trips := by rw [trips1]; exact (y (0 : Fin 3)).isLt
  rw [pb1_tiles c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v2 v7 X4 X7 _ le_rfl]
  refine (View.read_tilePieces _ _ _ _ _ _ _ _ y ⟨(y (0 : Fin 3)).val, hk⟩ hk (ix3 0 0 (y (2 : Fin 3))) ?_ (0 : Fin 3) ?_).trans rfl
  · intro a
    rw [k0_off3_eq]
    match a with
    | ⟨0, _⟩ => show (y (0 : Fin 3)).val = (y (0 : Fin 3)).val + 0; omega
    | ⟨1, _⟩ => show (y (1 : Fin 3)).val = (i 0).val + 0; omega
    | ⟨2, _⟩ => show (y (2 : Fin 3)).val = 0 + (y (2 : Fin 3)).val; omega
  · intro k' hne
    have hne' : k'.val ≠ (y (0 : Fin 3)).val := fun h => hne (Fin.ext h)
    rw [k0_off3_eq]
    show (y (0 : Fin 3)).val < k'.val ∨ k'.val + 1 ≤ (y (0 : Fin 3)).val
    omega

/-- Loop 1 leaves the other rows of the scales. -/
theorem s1_miss (v2 v7 : Vec F S1x1152 .f32) (X4 : BufTy.Contents (Elt F) arg4.view.ty) (X7 : BufTy.Contents (Elt F) arg7.view.ty)
    (f : BufTy.Contents (Elt F) arg16.view.ty) (y : S6x24x128.Idx) (hy : (y (1 : Fin 3)).val ≠ 0 + (i 0).val) :
    arg16.view.read (Elt F) (arg16.view.writes (Elt F) f (pb_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v2 v7 X4 X7 k0_t1_loop.trips).2.2) y
      = arg16.view.read (Elt F) f y := by
  rw [pb1_tiles c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v2 v7 X4 X7 _ le_rfl]
  refine View.read_tilePieces_miss _ _ _ _ _ _ _ _ y (1 : Fin 3) fun k' _ => ?_
  rw [k0_off3_eq]
  show (y (1 : Fin 3)).val < (i 0).val ∨ (i 0).val + 1 ≤ (y (1 : Fin 3)).val
  omega

/-- The pieces of the first `n` trips of loop 2, one tile a trip. -/
theorem pb2_tiles (v2 v7 : Vec F S1x1152 .f32) (X4 : BufTy.Contents (Elt F) arg4.view.ty) (X7 : BufTy.Contents (Elt F) arg7.view.ty)
    (n : ℕ) (hn : n ≤ k0_t2_loop.trips) :
    pb_k0_t2 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v2 v7 X4 X7 n
      = (View.tilePieces (s := S2x1x768x1152) S1x1x128x1152.size (fun k => k0_off5 k) (fun k => k0_off5_inb k)
            (fun k => codesC v2 v7 (chunk (arg4.view.read (Elt F) X4) 1 ⟨k.val, lt_of_lt_of_eq k.isLt trips2⟩)) n hn,
         View.tilePieces (s := S2x16x768) S1x16x128.size (fun k => k0_off7 k) (fun k => k0_off7_inb k)
            (fun k => yC v2 v7 (chunk (arg4.view.read (Elt F) X4) 1 ⟨k.val, lt_of_lt_of_eq k.isLt trips2⟩) (arg7.view.read (Elt F) X7)) n hn,
         View.tilePieces (s := S6x24x128) S1x1x128.size (fun k => k0_off6 i k) (fun k => k0_off6_inb i k)
            (fun k => srowC v2 v7 (chunk (arg4.view.read (Elt F) X4) 1 ⟨k.val, lt_of_lt_of_eq k.isLt trips2⟩)) n hn) := by
  induction n with
  | zero => rfl
  | succ n ih =>
    have hs := pb_k0_t2_succ (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v2 v7 X4 X7 ⟨n, hn⟩
    rw [trip2_eq, ih (Nat.le_of_succ_le hn), ld_chunk2 _ ⟨n, hn⟩ ⟨n, by rw [← trips2]; exact hn⟩ rfl, ld_w] at hs
    exact hs

/-- Half 1 of the codes after loop 2. -/
theorem codes2_hit (v2 v7 : Vec F S1x1152 .f32) (X4 : BufTy.Contents (Elt F) arg4.view.ty) (X7 : BufTy.Contents (Elt F) arg7.view.ty)
    (f : BufTy.Contents (Elt F) arg13.view.ty) (y : S2x1x768x1152.Idx) (hy : (y (0 : Fin 4)).val = 1) :
    arg13.view.read (Elt F) (arg13.view.writes (Elt F) f (pb_k0_t2 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v2 v7 X4 X7 k0_t2_loop.trips).1) y
      = codesC v2 v7 (chunk (arg4.view.read (Elt F) X4) 1 (kk (y (2 : Fin 4)))) (ix4 0 0 (rr (y (2 : Fin 4))) (y (3 : Fin 4))) := by
  have hk : (kk (y (2 : Fin 4))).val < k0_t2_loop.trips := by rw [trips2]; exact (kk (y (2 : Fin 4))).isLt
  have h1 : (y (1 : Fin 4)).val < 1 := (y (1 : Fin 4)).isLt
  have h2 : (y (2 : Fin 4)).val < 768 := (y (2 : Fin 4)).isLt
  rw [pb2_tiles c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v2 v7 X4 X7 _ le_rfl]
  refine (View.read_tilePieces _ _ _ _ _ _ _ _ y ⟨(kk (y (2 : Fin 4))).val, hk⟩ hk (ix4 0 0 (rr (y (2 : Fin 4))) (y (3 : Fin 4))) ?_ (2 : Fin 4) ?_).trans rfl
  · intro a
    rw [k0_off5_eq]
    match a with
    | ⟨0, _⟩ => show (y (0 : Fin 4)).val = 1 + 0; omega
    | ⟨1, _⟩ => show (y (1 : Fin 4)).val = 0 + 0; omega
    | ⟨2, _⟩ => show (y (2 : Fin 4)).val = 128 * ((y (2 : Fin 4)).val / 128) + (y (2 : Fin 4)).val % 128; omega
    | ⟨3, _⟩ => show (y (3 : Fin 4)).val = 0 + (y (3 : Fin 4)).val; omega
  · intro k' hne
    have hne' : k'.val ≠ (y (2 : Fin 4)).val / 128 := fun h => hne (Fin.ext h)
    rw [k0_off5_eq]
    show (y (2 : Fin 4)).val < 128 * k'.val ∨ 128 * k'.val + 128 ≤ (y (2 : Fin 4)).val
    omega

/-- Loop 2 leaves the other half of the codes. -/
theorem codes2_miss (v2 v7 : Vec F S1x1152 .f32) (X4 : BufTy.Contents (Elt F) arg4.view.ty) (X7 : BufTy.Contents (Elt F) arg7.view.ty)
    (f : BufTy.Contents (Elt F) arg13.view.ty) (y : S2x1x768x1152.Idx) (hy : (y (0 : Fin 4)).val ≠ 1) :
    arg13.view.read (Elt F) (arg13.view.writes (Elt F) f (pb_k0_t2 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v2 v7 X4 X7 k0_t2_loop.trips).1) y
      = arg13.view.read (Elt F) f y := by
  rw [pb2_tiles c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v2 v7 X4 X7 _ le_rfl]
  refine View.read_tilePieces_miss _ _ _ _ _ _ _ _ y (0 : Fin 4) fun k' _ => ?_
  rw [k0_off5_eq]
  show (y (0 : Fin 4)).val < 1 ∨ 1 + 1 ≤ (y (0 : Fin 4)).val
  omega

/-- Half 1 of the scaled products after loop 2. -/
theorem y2_hit (v2 v7 : Vec F S1x1152 .f32) (X4 : BufTy.Contents (Elt F) arg4.view.ty) (X7 : BufTy.Contents (Elt F) arg7.view.ty)
    (f : BufTy.Contents (Elt F) arg15.view.ty) (y : S2x16x768.Idx) (hy : (y (0 : Fin 3)).val = 1) :
    arg15.view.read (Elt F) (arg15.view.writes (Elt F) f (pb_k0_t2 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v2 v7 X4 X7 k0_t2_loop.trips).2.1) y
      = yC v2 v7 (chunk (arg4.view.read (Elt F) X4) 1 (kk (y (2 : Fin 3)))) (arg7.view.read (Elt F) X7) (ix3 0 (y (1 : Fin 3)) (rr (y (2 : Fin 3)))) := by
  have hk : (kk (y (2 : Fin 3))).val < k0_t2_loop.trips := by rw [trips2]; exact (kk (y (2 : Fin 3))).isLt
  have h2 : (y (2 : Fin 3)).val < 768 := (y (2 : Fin 3)).isLt
  rw [pb2_tiles c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v2 v7 X4 X7 _ le_rfl]
  refine (View.read_tilePieces _ _ _ _ _ _ _ _ y ⟨(kk (y (2 : Fin 3))).val, hk⟩ hk (ix3 0 (y (1 : Fin 3)) (rr (y (2 : Fin 3)))) ?_ (2 : Fin 3) ?_).trans rfl
  · intro a
    rw [k0_off7_eq]
    match a with
    | ⟨0, _⟩ => show (y (0 : Fin 3)).val = 1 + 0; omega
    | ⟨1, _⟩ => show (y (1 : Fin 3)).val = 0 + (y (1 : Fin 3)).val; omega
    | ⟨2, _⟩ => show (y (2 : Fin 3)).val = 128 * ((y (2 : Fin 3)).val / 128) + (y (2 : Fin 3)).val % 128; omega
  · intro k' hne
    have hne' : k'.val ≠ (y (2 : Fin 3)).val / 128 := fun h => hne (Fin.ext h)
    rw [k0_off7_eq]
    show (y (2 : Fin 3)).val < 128 * k'.val ∨ 128 * k'.val + 128 ≤ (y (2 : Fin 3)).val
    omega

/-- Loop 2 leaves the other half of the products. -/
theorem y2_miss (v2 v7 : Vec F S1x1152 .f32) (X4 : BufTy.Contents (Elt F) arg4.view.ty) (X7 : BufTy.Contents (Elt F) arg7.view.ty)
    (f : BufTy.Contents (Elt F) arg15.view.ty) (y : S2x16x768.Idx) (hy : (y (0 : Fin 3)).val ≠ 1) :
    arg15.view.read (Elt F) (arg15.view.writes (Elt F) f (pb_k0_t2 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v2 v7 X4 X7 k0_t2_loop.trips).2.1) y
      = arg15.view.read (Elt F) f y := by
  rw [pb2_tiles c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v2 v7 X4 X7 _ le_rfl]
  refine View.read_tilePieces_miss _ _ _ _ _ _ _ _ y (0 : Fin 3) fun k' _ => ?_
  rw [k0_off7_eq]
  show (y (0 : Fin 3)).val < 1 ∨ 1 + 1 ≤ (y (0 : Fin 3)).val
  omega

/-- The image's row of the scales after loop 2. -/
theorem s2_hit (v2 v7 : Vec F S1x1152 .f32) (X4 : BufTy.Contents (Elt F) arg4.view.ty) (X7 : BufTy.Contents (Elt F) arg7.view.ty)
    (f : BufTy.Contents (Elt F) arg16.view.ty) (y : S6x24x128.Idx) (hy : (y (1 : Fin 3)).val = 12 + (i 0).val) :
    arg16.view.read (Elt F) (arg16.view.writes (Elt F) f (pb_k0_t2 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v2 v7 X4 X7 k0_t2_loop.trips).2.2) y
      = srowC v2 v7 (chunk (arg4.view.read (Elt F) X4) 1 (y (0 : Fin 3))) (ix3 0 0 (y (2 : Fin 3))) := by
  have hk : (y (0 : Fin 3)).val < k0_t2_loop.trips := by rw [trips2]; exact (y (0 : Fin 3)).isLt
  rw [pb2_tiles c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v2 v7 X4 X7 _ le_rfl]
  refine (View.read_tilePieces _ _ _ _ _ _ _ _ y ⟨(y (0 : Fin 3)).val, hk⟩ hk (ix3 0 0 (y (2 : Fin 3))) ?_ (0 : Fin 3) ?_).trans rfl
  · intro a
    rw [k0_off6_eq]
    match a with
    | ⟨0, _⟩ => show (y (0 : Fin 3)).val = (y (0 : Fin 3)).val + 0; omega
    | ⟨1, _⟩ => show (y (1 : Fin 3)).val = (i 0).val + 12 + 0; omega
    | ⟨2, _⟩ => show (y (2 : Fin 3)).val = 0 + (y (2 : Fin 3)).val; omega
  · intro k' hne
    have hne' : k'.val ≠ (y (0 : Fin 3)).val := fun h => hne (Fin.ext h)
    rw [k0_off6_eq]
    show (y (0 : Fin 3)).val < k'.val ∨ k'.val + 1 ≤ (y (0 : Fin 3)).val
    omega

/-- Loop 2 leaves the other rows of the scales. -/
theorem s2_miss (v2 v7 : Vec F S1x1152 .f32) (X4 : BufTy.Contents (Elt F) arg4.view.ty) (X7 : BufTy.Contents (Elt F) arg7.view.ty)
    (f : BufTy.Contents (Elt F) arg16.view.ty) (y : S6x24x128.Idx) (hy : (y (1 : Fin 3)).val ≠ 12 + (i 0).val) :
    arg16.view.read (Elt F) (arg16.view.writes (Elt F) f (pb_k0_t2 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v2 v7 X4 X7 k0_t2_loop.trips).2.2) y
      = arg16.view.read (Elt F) f y := by
  rw [pb2_tiles c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v2 v7 X4 X7 _ le_rfl]
  refine View.read_tilePieces_miss _ _ _ _ _ _ _ _ y (1 : Fin 3) fun k' _ => ?_
  rw [k0_off6_eq]
  show (y (1 : Fin 3)).val < (i 0).val + 12 ∨ (i 0).val + 12 + 1 ≤ (y (1 : Fin 3)).val
  omega

end Trips

end Cert.KernelIdeal.Hand

end
-- ==== Proof.KImage.lean ====
/-
  Hand-written, untrusted. The 48 rows the kernel stores of its image, as one re-indexing of the point's 16 by 768
  prediction.
-/
module

public import proofs.«01_k».proof.Proof.Gen.KernelIdeal.Launch
public import proofs.«01_k».proof.Proof.Gen.KernelIdeal.Loops
public import proofs.«01_k».proof.Proof.Gen.KernelIdeal.Points
public import proofs.«01_k».proof.Proof.Gen.KernelIdeal.Skeleton
public import Idealize.ShloMosaic.Lib.Pipeline.FrameBody
public import Idealize.ShloMosaic.Lib.Pipeline.Frame
public import Idealize.ShloMosaic.Lib.Pipeline.Value
public import Idealize.ShloMosaic.Lib.WritesUnit
public import Idealize.ShloMosaic.Lib.Pointwise
public import Idealize.ShloMosaic.Lib.Tactic

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

theorem slices_tile : ∀ (p : Fin 2) (j : Fin 6), S16x768.Slices ![8 * p.val, 128 * j.val] S8x128 := by decide
theorem slices_half : ∀ k : Fin 2, S4x128.Slices ![0, 64 * k.val] S4x64 := by decide

/-- The lane each lane of a mixed tile is gathered from. -/
def gIdx (o : BitVec 32) : IVec S8x128 32 :=
  have v98 : IVec S8x128 32 := shrsi (iota .tc S8x128 32 [1] iota_S8x128_d1_w32) (broadcast S8x128 1#32)
  have v100 : IVec S8x128 32 := addi v98 (broadcast S8x128 o)
  have v105 : IVec S8x128 32 := select (cmpi .slt v100 (broadcast S8x128 0#32)) (addi v100 (broadcast S8x128 128#32)) v100
  shapeCast S8x128 (shapeCast S8x128x1 v105 shapeCasts_S8x128_S8x128x1) shapeCasts_S8x128x1_S8x128

/-- A tile with its two channel halves interleaved along the lanes. -/
def mixT (t : FVec F S8x128 .f32) (o : BitVec 32) : FVec F S8x128 .f32 :=
  have v108 : FVec F S8x128 .f32 := dynamicGather 1 t (gIdx o)
  select (cmpi .eq (andi (iota .tc S8x128 32 [1] iota_S8x128_d1_w32) (broadcast S8x128 1#32)) (broadcast S8x128 0#32)) v108
    (dynamicRotate 0 4#32 none v108 rotates_S8x128_d0)

/-- One stored row of the image. -/
def imgRow (v : FVec F S16x768 .f32) (p : Fin 2) (j : Fin 6) (o : BitVec 32) (k : Fin 2) : FVec F S4x1x64 .f32 :=
  shapeCast S4x1x64
    (extractStridedSlice S4x64 ![0, 64 * k.val]
      (extractStridedSlice S4x128 ![0, 0]
        (mixT (extractStridedSlice S8x128 ![8 * p.val, 128 * j.val] v (slices_tile p j)) o) slices_S8x128_o0_0_S4x128)
      (slices_half k)) shapeCasts_S4x64_S4x1x64

/-- The image: element `(s, r, q)` is the prediction of row parity `r % 2`, channel `s`, column parity `q % 2` at the patch in
    patch row `r / 2` and patch column `q / 2`. -/
def imgK (v : FVec F S16x768 .f32) : FVec F S4x48x64 .f32 := fun y =>
  v (ix2 ⟨8 * ((y (1 : Fin 3)).val % 2) + (y (0 : Fin 3)).val + 4 * ((y (2 : Fin 3)).val % 2), by
      have h : (y (0 : Fin 3)).val < 4 := (y (0 : Fin 3)).isLt
      omega⟩
    ⟨32 * ((y (1 : Fin 3)).val / 2) + (y (2 : Fin 3)).val / 2, by
      have h : (y (1 : Fin 3)).val < 48 := (y (1 : Fin 3)).isLt
      have h' : (y (2 : Fin 3)).val < 64 := (y (2 : Fin 3)).isLt
      omega⟩)

/-- The gathered lane: half the lane, past the offset. -/
theorem gIdx_val : ∀ (m : Fin 2) (l : Fin 128),
    (Scalar.select
      (IntOp.cmpi CmpIPredicate.slt (IntOp.addi (IntOp.shrsi ArithUnit.vector (BitVec.ofNat 32 l.val) 1#32) (BitVec.ofNat 32 (64 * m.val))) 0#32)
      (IntOp.addi (IntOp.addi (IntOp.shrsi ArithUnit.vector (BitVec.ofNat 32 l.val) 1#32) (BitVec.ofNat 32 (64 * m.val))) 128#32)
      (IntOp.addi (IntOp.shrsi ArithUnit.vector (BitVec.ofNat 32 l.val) 1#32) (BitVec.ofNat 32 (64 * m.val)))).toNat
      = l.val / 2 + 64 * m.val := by
  decide +kernel

/-- The mask's word: one on the even lanes. -/
theorem mask_val : ∀ l : Fin 128, IntOp.cmpi CmpIPredicate.eq (IntOp.andi (BitVec.ofNat 32 l.val) 1#32) 0#32 = if l.val % 2 = 0 then 1#1 else 0#1 := by
  decide +kernel

theorem sel1 {α : Type} (a b : α) : Scalar.select 1#1 a b = a := rfl
theorem sel0 {α : Type} (a b : α) : Scalar.select 0#1 a b = b := rfl

set_option maxHeartbeats 4000000 in
/-- A stored row, element by element. -/
theorem imgRow_apply (v : FVec F S16x768 .f32) (p : Fin 2) (j : Fin 6) (m k : Fin 2) (s : Fin 4) (z : Fin 1) (q : Fin 64) :
    imgRow v p j (BitVec.ofNat 32 (64 * m.val)) k (ix3 s z q)
      = imgK v (ix3 s ⟨2 * (4 * j.val + 2 * m.val + k.val) + p.val, by omega⟩ q) := by
  pointwise [imgRow, imgK, mixT, gIdx]
  have hl : 64 * k.val + q.val < 128 := by omega
  have hg := gIdx_val m ⟨64 * k.val + q.val, hl⟩
  have hm := mask_val ⟨64 * k.val + q.val, hl⟩
  by_cases h : (64 * k.val + q.val) % 2 = 0
  · refine (congrArg (fun c => Scalar.select c _ _) (hm.trans (if_pos h))).trans ?_
    refine Eq.trans (sel1 _ _) (congrArg v (congrArg₂ ix2 (Fin.ext ?_) (Fin.ext ?_)))
    · show 8 * p.val + s.val = 8 * ((2 * (4 * j.val + 2 * m.val + k.val) + p.val) % 2) + s.val + 4 * (q.val % 2); omega
    · refine (congrArg (fun n => 128 * j.val + n % 128) hg).trans ?_
      show 128 * j.val + ((64 * k.val + q.val) / 2 + 64 * m.val) % 128 = 32 * ((2 * (4 * j.val + 2 * m.val + k.val) + p.val) / 2) + q.val / 2; omega
  · refine (congrArg (fun c => Scalar.select c _ _) (hm.trans (if_neg h))).trans ?_
    refine Eq.trans (sel0 _ _) (congrArg v (congrArg₂ ix2 (Fin.ext ?_) (Fin.ext ?_)))
    · show 8 * p.val + (s.val + 8 - 4) % 8 = 8 * ((2 * (4 * j.val + 2 * m.val + k.val) + p.val) % 2) + s.val + 4 * (q.val % 2); omega
    · refine (congrArg (fun n => 128 * j.val + n % 128) hg).trans ?_
      show 128 * j.val + ((64 * k.val + q.val) / 2 + 64 * m.val) % 128 = 32 * ((2 * (4 * j.val + 2 * m.val + k.val) + p.val) / 2) + q.val / 2; omega

/-- A store of row `2 (4 j + 2 m + k) + p` agrees with the image. -/
theorem imgRow_piece (v : FVec F S16x768 .f32) (p : Fin 2) (j : Fin 6) (m k : Fin 2) (r : ℕ) (hr : r = 2 * (4 * j.val + 2 * m.val + k.val) + p.val)
    (inb : ∀ a : Fin 3, (![0, r, 0] : Fin 3 → ℕ) a + S4x1x64.size a ≤ S4x48x64.size a)
    (w : FVec F S4x1x64 .f32) (hw : w = imgRow v p j (BitVec.ofNat 32 (64 * m.val)) k) :
    ∀ x : (Rect.unit (s := S4x48x64) ![0, r, 0] S4x1x64.size inb).shape.Idx,
      w x = imgK v ((Rect.unit (s := S4x48x64) ![0, r, 0] S4x1x64.size inb).emb x) := by
  subst hw hr
  intro x
  have e : x = ix3 (x (0 : Fin 3) : Fin 4) (x (1 : Fin 3) : Fin 1) (x (2 : Fin 3) : Fin 64) := by
    funext a; match a with | ⟨0, _⟩ => rfl | ⟨1, _⟩ => rfl | ⟨2, _⟩ => rfl
  refine (congrArg (imgRow v p j (BitVec.ofNat 32 (64 * m.val)) k) e).trans ((imgRow_apply v p j m k _ _ _).trans (congrArg (imgK v) ?_))
  have h1 : (x (1 : Fin 3)).val < 1 := (x (1 : Fin 3)).isLt
  funext a
  apply Fin.ext
  match a with
  | ⟨0, _⟩ => show (x (0 : Fin 3)).val = 0 + 1 * (x (0 : Fin 3)).val; omega
  | ⟨1, _⟩ => show 2 * (4 * j.val + 2 * m.val + k.val) + p.val = 2 * (4 * j.val + 2 * m.val + k.val) + p.val + 1 * (x (1 : Fin 3)).val; omega
  | ⟨2, _⟩ => show (x (2 : Fin 3)).val = 0 + 1 * (x (2 : Fin 3)).val; omega

/-- What one store of a tiled buffer owes: it agrees with `G`, and it holds every index of its key. -/
def Tile {s : Shape} {e : EltTy} (G : s.Idx → Elt F e) (key : s.Idx → ℕ) (p : View.Piece (Elt F) s e) (n : ℕ) : Prop :=
  (∀ x : p.1.shape.Idx, p.2 x = G (p.1.emb x)) ∧ ∀ y : s.Idx, key y = n → y ∈ p.1.set

/-- Stores that are tiles of `G` agree with `G`, and hold every index whose key is listed. -/
theorem tiles_spec {s : Shape} {e : EltTy} (G : s.Idx → Elt F e) (key : s.Idx → ℕ) (L : List (View.Piece (Elt F) s e)) (ks : List ℕ)
    (h : List.Forall₂ (Tile G key) L ks) :
    (∀ p ∈ L, ∀ x : p.1.shape.Idx, p.2 x = G (p.1.emb x)) ∧ ∀ y, key y ∈ ks → ∃ p ∈ L, y ∈ p.1.set := by
  induction h with
  | nil => exact ⟨fun p hp => absurd hp List.not_mem_nil, fun y hy => absurd hy List.not_mem_nil⟩
  | cons hp _ ih =>
    refine ⟨List.forall_mem_cons.mpr ⟨hp.1, ih.1⟩, fun y hy => ?_⟩
    rcases List.mem_cons.mp hy with h | h
    · exact ⟨_, List.mem_cons_self, hp.2 y h⟩
    · obtain ⟨q, hq, hy'⟩ := ih.2 y h
      exact ⟨q, List.mem_cons_of_mem _ hq, hy'⟩

/-- The store of image row `r` is a tile of the image. -/
theorem img_tile (v : FVec F S16x768 .f32) (r : ℕ) (hr : r < 48)
    (inb : ∀ a : Fin 3, (![0, r, 0] : Fin 3 → ℕ) a + S4x1x64.size a ≤ S4x48x64.size a) (w : FVec F S4x1x64 .f32)
    (hw : w = imgRow v ⟨r % 2, by omega⟩ ⟨r / 8, by omega⟩ (BitVec.ofNat 32 (64 * (r / 4 % 2))) ⟨r / 2 % 2, by omega⟩) :
    Tile (s := S4x48x64) (e := .f32) (imgK v) (fun y => (y (1 : Fin 3)).val) ⟨Rect.unit (s := S4x48x64) ![0, r, 0] S4x1x64.size inb, w⟩ r := by
  refine ⟨imgRow_piece v ⟨r % 2, by omega⟩ ⟨r / 8, by omega⟩ ⟨r / 4 % 2, by omega⟩ ⟨r / 2 % 2, by omega⟩ r (by dsimp only; omega) inb w hw, ?_⟩
  intro y hy
  rw [Rect.mem_set_unit]
  have h0 : (y (0 : Fin 3)).val < 4 := (y (0 : Fin 3)).isLt
  have h2 : (y (2 : Fin 3)).val < 64 := (y (2 : Fin 3)).isLt
  have hy' : (y (1 : Fin 3)).val = r := hy
  intro a
  match a with
  | ⟨0, _⟩ => exact ⟨Nat.zero_le _, by show (y (0 : Fin 3)).val < 0 + 4; omega⟩
  | ⟨1, _⟩ => exact ⟨by show r ≤ (y (1 : Fin 3)).val; omega, by show (y (1 : Fin 3)).val < r + 1; omega⟩
  | ⟨2, _⟩ => exact ⟨Nat.zero_le _, by show (y (2 : Fin 3)).val < 0 + 64; omega⟩

/-- The image rows in the order of their stores, newest first: the odd rows, then the even ones. -/
def imgRows : List ℕ := [47, 45, 43, 41, 39, 37, 35, 33, 31, 29, 27, 25, 23, 21, 19, 17, 15, 13, 11, 9, 7, 5, 3, 1,
  46, 44, 42, 40, 38, 36, 34, 32, 30, 28, 26, 24, 22, 20, 18, 16, 14, 12, 10, 8, 6, 4, 2, 0]

theorem mem_imgRows : ∀ r : Fin 48, r.val ∈ imgRows := by decide

/-- A load of the whole image scratch after its 48 row stores reads the image. -/
theorem img_read {arg17 : Memref sig .tc .vmem S4x48x64 .f32} (v : FVec F S16x768 .f32) (L : List (View.Piece (Elt F) S4x48x64 .f32))
    (hL : List.Forall₂ (Tile (s := S4x48x64) (e := .f32) (imgK v) (fun y => (y (1 : Fin 3)).val)) L imgRows)
    (inb : ∀ a, (![0, 0, 0] : Fin 3 → ℕ) a + S4x48x64.size a ≤ S4x48x64.size a) :
    arg17.view.readCov L (Rect.unit (s := S4x48x64) ![0, 0, 0] S4x48x64.size inb).toLoadRect = imgK v := by
  obtain ⟨hG, hc⟩ := tiles_spec _ _ _ _ hL
  have hcov : ∀ y : S4x48x64.Idx, ∃ p ∈ L, y ∈ p.1.set := fun y => hc y (mem_imgRows (y (1 : Fin 3)))
  rw [View.readCov_eq_canon_ld _ _ _ hcov,
    View.ld_unit_zero (S := S4x48x64) (show (![0, 0, 0] : Fin 3 → ℕ) = fun _ => 0 by
      funext a; match a with | ⟨0, _⟩ => rfl | ⟨1, _⟩ => rfl | ⟨2, _⟩ => rfl)]
  exact funext fun y => View.canon_apply_of_pieces _ L hG y (hcov y)

/-- The spread scales of all 24 images as the kernel copies them out: chunk by chunk along the pixels. -/
def xsK (s : S6x24x128.Idx → Elt F .f32) : S24x768.Idx → Elt F .f32 := fun y =>
  s (ix3 (⟨(y (1 : Fin 2)).val / 128, by have h : (y (1 : Fin 2)).val < 768 := (y (1 : Fin 2)).isLt; omega⟩ : Fin 6) (y (0 : Fin 2))
    (⟨(y (1 : Fin 2)).val % 128, by omega⟩ : Fin 128))

/-- The copy of chunk `j` is a tile of it. -/
theorem xs_tile (s : S6x24x128.Idx → Elt F .f32) (j : ℕ) (hj : j < 6) (o : ℕ) (ho : o = 128 * j)
    (inb : ∀ a : Fin 2, (![0, o] : Fin 2 → ℕ) a + S24x128.size a ≤ S24x768.size a)
    (inb' : ∀ a : Fin 3, (![j, 0, 0] : Fin 3 → ℕ) a + S1x24x128.size a ≤ S6x24x128.size a) :
    Tile (s := S24x768) (e := .f32) (xsK s) (fun y => (y (1 : Fin 2)).val / 128)
      ⟨Rect.unit (s := S24x768) ![0, o] S24x128.size inb,
        shapeCast S24x128 (View.ld (Val := Elt F) (e' := .f32) s (Rect.unit (s := S6x24x128) ![j, 0, 0] S1x24x128.size inb')) shapeCasts_S1x24x128_S24x128⟩ j := by
  subst ho
  constructor
  · intro x
    have h0 : (x (0 : Fin 2)).val < 24 := (x (0 : Fin 2)).isLt
    have h1 : (x (1 : Fin 2)).val < 128 := (x (1 : Fin 2)).isLt
    show shapeCast S24x128 (View.ld (Val := Elt F) (e' := .f32) s (Rect.unit (s := S6x24x128) ![j, 0, 0] S1x24x128.size inb')) shapeCasts_S1x24x128_S24x128 x
      = xsK s ((Rect.unit (s := S24x768) ![0, 128 * j] S24x128.size inb).emb x)
    refine (shapeCast_apply (s := S1x24x128) (t := S24x128) _ _ _ (ix3 (0 : Fin 1) (⟨(x (0 : Fin 2)).val, h0⟩ : Fin 24) (⟨(x (1 : Fin 2)).val, h1⟩ : Fin 128)) ?_).trans ?_
    · rw [Shape.rowMajor_val_three, Shape.rowMajor_val_two]
      show (0 * 24 + (x (0 : Fin 2)).val) * 128 + (x (1 : Fin 2)).val = (x (0 : Fin 2)).val * 128 + (x (1 : Fin 2)).val
      omega
    · refine congrArg s (funext fun a => Fin.ext ?_)
      match a with
      | ⟨0, _⟩ => show j + 1 * 0 = (128 * j + 1 * (x (1 : Fin 2)).val) / 128; omega
      | ⟨1, _⟩ => show 0 + 1 * (x (0 : Fin 2)).val = 0 + 1 * (x (0 : Fin 2)).val; rfl
      | ⟨2, _⟩ => show 0 + 1 * (x (1 : Fin 2)).val = (128 * j + 1 * (x (1 : Fin 2)).val) % 128; omega
  · intro y hy
    rw [Rect.mem_set_unit]
    have h0 : (y (0 : Fin 2)).val < 24 := (y (0 : Fin 2)).isLt
    have hy' : (y (1 : Fin 2)).val / 128 = j := hy
    intro a
    match a with
    | ⟨0, _⟩ => exact ⟨Nat.zero_le _, by show (y (0 : Fin 2)).val < 0 + 24; omega⟩
    | ⟨1, _⟩ => exact ⟨by show 128 * j ≤ (y (1 : Fin 2)).val; omega, by show (y (1 : Fin 2)).val < 128 * j + 128; omega⟩

/-- The six copies leave the spread scales, whatever the buffer held. -/
theorem xs_read {arg14 : Memref sig .tc .vmem S24x768 .f32} (s : S6x24x128.Idx → Elt F .f32) (f : BufTy.Contents (Elt F) arg14.view.ty)
    (L : List (View.Piece (Elt F) S24x768 .f32))
    (hL : List.Forall₂ (Tile (s := S24x768) (e := .f32) (xsK s) (fun y => (y (1 : Fin 2)).val / 128)) L [5, 4, 3, 2, 1, 0]) :
    arg14.view.read (Elt F) (arg14.view.writes (Elt F) f L) = xsK s := by
  obtain ⟨hG, hc⟩ := tiles_spec _ _ _ _ hL
  refine funext fun y => View.read_writes_apply_of_pieces _ _ _ L hG y (hc y ?_)
  have h : (y (1 : Fin 2)).val / 128 < 6 := by have h : (y (1 : Fin 2)).val < 768 := (y (1 : Fin 2)).isLt; omega
  exact (show ∀ r : Fin 6, r.val ∈ [5, 4, 3, 2, 1, 0] by decide) ⟨_, h⟩

/-- A store of a whole buffer leaves what it stored. -/
theorem read_whole {κ : Kind} {sp : Space} {s : Shape} {e : EltTy} (v : View sig κ sp s e) (f : v.ty.Contents (Elt F)) {off : Fin s.rank → ℕ}
    (h : off = fun _ => 0) (inb : ∀ a, off a + s.size a ≤ s.size a) (w : s.Idx → Elt F e) :
    v.read (Elt F) (v.writes (Elt F) f [⟨Rect.unit off s.size inb, w⟩]) = w :=
  funext fun y => View.read_writes_cons_unit_of_mem v f inb w [] y y h fun a => (Nat.zero_add _).symm

end Cert.KernelIdeal.Hand

end
-- ==== Proof.KPoint.lean ====
/-
  Hand-written, untrusted. One grid point of the kernel as a value: what its body leaves in each output and in the scale
  scratch, as functions of the point's input blocks.
-/
module

public import proofs.«01_k».proof.Proof.Gen.KernelIdeal.Frame
public import proofs.«01_k».proof.Proof.Gen.KernelIdeal.Launch
public import proofs.«01_k».proof.Proof.Gen.KernelIdeal.Loops
public import proofs.«01_k».proof.Proof.Gen.KernelIdeal.Points
public import proofs.«01_k».proof.Proof.Gen.KernelIdeal.Skeleton
public import proofs.«01_k».proof.Proof.KLoops
public import proofs.«01_k».proof.Proof.KImage
public import Idealize.ShloMosaic.Lib.Pipeline.FrameBody
public import Idealize.ShloMosaic.Lib.Pipeline.Frame
public import Idealize.ShloMosaic.Lib.Pipeline.Value
public import Idealize.ShloMosaic.Lib.WritesUnit
public import Idealize.ShloMosaic.Lib.Pointwise
public import Idealize.ShloMosaic.Lib.Tactic

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The point's image number. -/
def bI (i : grid0.Coords) : Fin 12 := ⟨(i 0).val, (i 0).isLt⟩

/-- The row of a 24-row table that belongs to half `h` of image `b`. -/
def rowK (x : S24x1152.Idx → Elt F .f32) (b : Fin 12) (h : Fin 2) : Vec F S1x1152 .f32 := fun z =>
  x (ix2 (⟨12 * h.val + b.val, by omega⟩ : Fin 24) (z (1 : Fin 2)))

/-- The codes of a point's two images: `sc h` and `sh h` the scale and shift rows of half `h`. -/
def codesK (sc sh : Fin 2 → Vec F S1x1152 .f32) (x4 : S2x1x768x1152.Idx → Elt F .bf16) : S2x1x768x1152.Idx → Elt F .fp8e4m3 := fun y =>
  codesC (sc (y (0 : Fin 4))) (sh (y (0 : Fin 4))) (chunk x4 (y (0 : Fin 4)) (kk (y (2 : Fin 4)))) (ix4 0 0 (rr (y (2 : Fin 4))) (y (3 : Fin 4)))

/-- The scaled products of a point's two images with the weights. -/
def yK (sc sh : Fin 2 → Vec F S1x1152 .f32) (x4 : S2x1x768x1152.Idx → Elt F .bf16) (x7 : S16x1152.Idx → Elt F .fp8e4m3) : S2x16x768.Idx → Elt F .f32 := fun y =>
  yC (sc (y (0 : Fin 3))) (sh (y (0 : Fin 3))) (chunk x4 (y (0 : Fin 3)) (kk (y (2 : Fin 3)))) x7 (ix3 0 (y (1 : Fin 3)) (rr (y (2 : Fin 3))))

/-- The scale scratch after a point: the rows of its two images, the other rows as they were. -/
def sK (sc sh : Fin 2 → Vec F S1x1152 .f32) (x4 : S2x1x768x1152.Idx → Elt F .bf16) (b : Fin 12) (d : S6x24x128.Idx → Elt F .f32) : S6x24x128.Idx → Elt F .f32 := fun y =>
  if (y (1 : Fin 3)).val = b.val then srowC (sc 0) (sh 0) (chunk x4 0 (y (0 : Fin 3))) (ix3 0 0 (y (2 : Fin 3)))
  else if (y (1 : Fin 3)).val = 12 + b.val then srowC (sc 1) (sh 1) (chunk x4 1 (y (0 : Fin 3))) (ix3 0 0 (y (2 : Fin 3)))
  else d y

/-- One half of the products as the kernel loads it. -/
def halfK (Y : S2x16x768.Idx → Elt F .f32) (h : Fin 2) : Vec F S1x16x768 .f32 := fun z => Y (ix3 h (z (1 : Fin 3)) (z (2 : Fin 3)))

/-- The guided and rescaled prediction, of the loaded values. -/
abbrev predF (v26 : FVec F S16x1 .f32) (v31 : FVec F S16x16 .f32) (v33 v39 : Vec F S1x16x768 .f32) (v46 : Elt F .f32) : FVec F S16x768 .f32 :=
  k0_pay48 (k0_pay45 v26 v31 v33 v39 v46) (k0_pay46 v26 v31 v33) (k0_pay47 v26 v31 v33 v39 v46)

/-- The point's prediction, of its input blocks. -/
def predK (x1 : S12.Idx → Elt F .f32) (x4 : S2x1x768x1152.Idx → Elt F .bf16) (x5 x6 : S24x1152.Idx → Elt F .f32) (x7 : S16x1152.Idx → Elt F .fp8e4m3)
    (x8 x9 : S1x16.Idx → Elt F .f32) (b : Fin 12) : FVec F S16x768 .f32 :=
  predF (k0_pay41 x8) (k0_pay42 x9) (halfK (yK (rowK x6 b) (rowK x5 b) x4 x7) 0) (halfK (yK (rowK x6 b) (rowK x5 b) x4 x7) 1) (x1 (ix1 b))

/-- The point's new latent, of its prediction. -/
def latK (v : FVec F S16x768 .f32) (x10 : S1x4x48x64.Idx → Elt F .f32) (x3 x2 : S12.Idx → Elt F .f32) (b : Fin 12) : S1x4x48x64.Idx → Elt F .f32 :=
  k0_pay1 (k0_pay155 (imgK v) x10 (x3 (ix1 b)) (x2 (ix1 b)))

/-- The point's velocity, of its prediction. -/
def voutK (v : FVec F S16x768 .f32) : S1x4x48x64.Idx → Elt F .bf16 := k0_pay2 (imgK v)

/-- The copied scales after a point: written at the last point, else as found. -/
def xsAfter (i : grid0.Coords) (s : S6x24x128.Idx → Elt F .f32) (d : S24x768.Idx → Elt F .f32) : S24x768.Idx → Elt F .f32 :=
  if k0_cond1 i = 1#1 then xsK s else d

/-! ## What the loads read -/

theorem row_ld (arg : Memref sig .tc .vmem S24x1152 .f32) (f : BufTy.Contents (Elt F) arg.view.ty) (i : grid0.Coords) (h : Fin 2)
    (inb : ∀ a, (k0_off1 i (BitVec.ofNat 32 (12 * h.val))) a + S1x1152.size a ≤ S24x1152.size a) :
    View.readAt (Elt F) arg.view (Rect.unit (s := S24x1152) (k0_off1 i (BitVec.ofNat 32 (12 * h.val))) S1x1152.size inb).toLoadRect f
      = rowK (arg.view.read (Elt F) f) (bI i) h := by
  rw [View.readAt_eq_ld]
  funext z
  have h0 : (z (0 : Fin 2)).val < 1 := (z (0 : Fin 2)).isLt
  refine congrArg (arg.view.read (Elt F) f) (funext fun a => Fin.ext ?_)
  show k0_off1 i (BitVec.ofNat 32 (12 * h.val)) a + 1 * (z a).val = _
  rw [show k0_off1 i (BitVec.ofNat 32 (12 * h.val)) a = _ from congrFun (k0_off1_eq i h) a]
  match a with
  | ⟨0, _⟩ => show 12 * h.val + (i 0).val + 1 * (z (0 : Fin 2)).val = 12 * h.val + (i 0).val; omega
  | ⟨1, _⟩ => show 0 + 1 * (z (1 : Fin 2)).val = (z (1 : Fin 2)).val; omega

/-- The first half's row. -/
theorem row_ld0 (arg : Memref sig .tc .vmem S24x1152 .f32) (f : BufTy.Contents (Elt F) arg.view.ty) (i : grid0.Coords)
    (inb : ∀ a, (k0_off1 i 0#32) a + S1x1152.size a ≤ S24x1152.size a) :
    View.readAt (Elt F) arg.view (Rect.unit (s := S24x1152) (k0_off1 i 0#32) S1x1152.size inb).toLoadRect f
      = rowK (arg.view.read (Elt F) f) (bI i) 0 := row_ld arg f i 0 inb

/-- The second half's row. -/
theorem row_ld1 (arg : Memref sig .tc .vmem S24x1152 .f32) (f : BufTy.Contents (Elt F) arg.view.ty) (i : grid0.Coords)
    (inb : ∀ a, (k0_off1 i 12#32) a + S1x1152.size a ≤ S24x1152.size a) :
    View.readAt (Elt F) arg.view (Rect.unit (s := S24x1152) (k0_off1 i 12#32) S1x1152.size inb).toLoadRect f
      = rowK (arg.view.read (Elt F) f) (bI i) 1 := row_ld arg f i 1 inb

/-- The point's word of a table of twelve. -/
theorem word_ld (arg : Memref sig .tc .smem S12 .f32) (f : BufTy.Contents (Elt F) arg.view.ty) (i : grid0.Coords)
    (inb : ∀ a, (k0_off8 i) a + S1.size a ≤ S12.size a) (y : S1.Idx) :
    View.readAt (Elt F) arg.view (Rect.unit (s := S12) (k0_off8 i) S1.size inb).toLoadRect f y = arg.view.read (Elt F) f (ix1 (bI i)) := by
  rw [View.readAt_eq_ld]
  have h0 : (y (0 : Fin 1)).val < 1 := (y (0 : Fin 1)).isLt
  refine congrArg (arg.view.read (Elt F) f) (funext fun a => Fin.ext ?_)
  show k0_off8 i a + 1 * (y a).val = _
  rw [show k0_off8 i a = _ from congrFun (k0_off8_eq i) a]
  match a with
  | ⟨0, _⟩ => show (i 0).val + 1 * (y (0 : Fin 1)).val = (i 0).val; omega

/-- A load of a whole buffer reads it. -/
theorem whole_ld {s : Shape} {e : EltTy} {κ : Kind} {sp : Space} (v : View sig κ sp s e) (f : v.ty.Contents (Elt F)) {off : Fin s.rank → ℕ}
    (h : off = fun _ => 0) (inb : ∀ a, off a + s.size a ≤ s.size a) :
    View.readAt (Elt F) v (Rect.unit off s.size inb).toLoadRect f = v.read (Elt F) f := by
  rw [View.readAt_eq_ld, View.ld_unit_zero h]

theorem zero2 : (![0, 0] : Fin 2 → ℕ) = fun _ => 0 := by
  funext a; match a with | ⟨0, _⟩ => rfl | ⟨1, _⟩ => rfl
theorem zero4 : (![0, 0, 0, 0] : Fin 4 → ℕ) = fun _ => 0 := by
  funext a; match a with | ⟨0, _⟩ => rfl | ⟨1, _⟩ => rfl | ⟨2, _⟩ => rfl | ⟨3, _⟩ => rfl

/-- A load of half `h` of the products. -/
theorem half_ld (v : View sig .tc .vmem S2x16x768 .f32) (f : v.ty.Contents (Elt F)) (h : Fin 2)
    (inb : ∀ a, (![h.val, 0, 0] : Fin 3 → ℕ) a + S1x16x768.size a ≤ S2x16x768.size a) :
    View.readAt (Elt F) v (Rect.unit (s := S2x16x768) ![h.val, 0, 0] S1x16x768.size inb).toLoadRect f = halfK (v.read (Elt F) f) h := by
  rw [View.readAt_eq_ld]
  funext z
  have h0 : (z (0 : Fin 3)).val < 1 := (z (0 : Fin 3)).isLt
  refine congrArg (v.read (Elt F) f) (funext fun a => Fin.ext ?_)
  match a with
  | ⟨0, _⟩ => show h.val + 1 * (z (0 : Fin 3)).val = h.val; omega
  | ⟨1, _⟩ => show 0 + 1 * (z (1 : Fin 3)).val = (z (1 : Fin 3)).val; omega
  | ⟨2, _⟩ => show 0 + 1 * (z (2 : Fin 3)).val = (z (2 : Fin 3)).val; omega

section After

variable (c : Dev nD) (i : grid0.Coords) (arg1 : Memref sig .tc .smem S12 .f32) (harg1 : arg1.IsWhole) (arg2 : Memref sig .tc .smem S12 .f32) (harg2 : arg2.IsWhole) (arg3 : Memref sig .tc .smem S12 .f32) (harg3 : arg3.IsWhole) (arg4 : Memref sig .tc .vmem S2x1x768x1152 .bf16) (harg4 : arg4.IsWhole) (arg5 : Memref sig .tc .vmem S24x1152 .f32) (harg5 : arg5.IsWhole) (arg6 : Memref sig .tc .vmem S24x1152 .f32) (harg6 : arg6.IsWhole) (arg7 : Memref sig .tc .vmem S16x1152 .fp8e4m3) (harg7 : arg7.IsWhole) (arg8 : Memref sig .tc .vmem S1x16 .f32) (harg8 : arg8.IsWhole) (arg9 : Memref sig .tc .vmem S1x16 .f32) (harg9 : arg9.IsWhole) (arg10 : Memref sig .tc .vmem S1x4x48x64 .f32) (harg10 : arg10.IsWhole) (arg11 : Memref sig .tc .vmem S1x4x48x64 .f32) (harg11 : arg11.IsWhole) (arg12 : Memref sig .tc .vmem S1x4x48x64 .bf16) (harg12 : arg12.IsWhole) (arg13 : Memref sig .tc .vmem S2x1x768x1152 .fp8e4m3) (harg13 : arg13.IsWhole) (arg14 : Memref sig .tc .vmem S24x768 .f32) (harg14 : arg14.IsWhole) (arg15 : Memref sig .tc .vmem S2x16x768 .f32) (harg15 : arg15.IsWhole) (arg16 : Memref sig .tc .vmem S6x24x128 .f32) (harg16 : arg16.IsWhole) (arg17 : Memref sig .tc .vmem S4x48x64 .f32) (harg17 : arg17.IsWhole)
  (sc sh : Fin 2 → Vec F S1x1152 .f32) (X4 : BufTy.Contents (Elt F) arg4.view.ty) (X7 : BufTy.Contents (Elt F) arg7.view.ty)

/-- The codes after both loops. -/
theorem codes_read (f : BufTy.Contents (Elt F) arg13.view.ty) :
    arg13.view.read (Elt F) (arg13.view.writes (Elt F) f
      ((pb_k0_t2 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (sc 1) (sh 1) X4 X7 k0_t2_loop.trips).1
        ++ (pb_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (sc 0) (sh 0) X4 X7 k0_t1_loop.trips).1))
      = codesK sc sh (arg4.view.read (Elt F) X4) := by
  funext y
  rw [View.writes_append]
  have h0 : (y (0 : Fin 4)).val < 2 := (y (0 : Fin 4)).isLt
  by_cases h : (y (0 : Fin 4)).val = 1
  · rw [codes2_hit c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 _ _ _ _ _ y h]
    have e : y (0 : Fin 4) = (1 : Fin 2) := Fin.ext h
    unfold codesK
    rw [e]
  · rw [codes2_miss c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 _ _ _ _ _ y h, codes1_hit c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 _ _ _ _ _ y (by omega)]
    have e : y (0 : Fin 4) = (0 : Fin 2) := Fin.ext (by show (y (0 : Fin 4)).val = 0; omega)
    unfold codesK
    rw [e]

/-- The scaled products after both loops. -/
theorem y_read (f : BufTy.Contents (Elt F) arg15.view.ty) :
    arg15.view.read (Elt F) (arg15.view.writes (Elt F) f
      ((pb_k0_t2 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (sc 1) (sh 1) X4 X7 k0_t2_loop.trips).2.1
        ++ (pb_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (sc 0) (sh 0) X4 X7 k0_t1_loop.trips).2.1))
      = yK sc sh (arg4.view.read (Elt F) X4) (arg7.view.read (Elt F) X7) := by
  funext y
  rw [View.writes_append]
  have h0 : (y (0 : Fin 3)).val < 2 := (y (0 : Fin 3)).isLt
  by_cases h : (y (0 : Fin 3)).val = 1
  · rw [y2_hit c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 _ _ _ _ _ y h]
    have e : y (0 : Fin 3) = (1 : Fin 2) := Fin.ext h
    unfold yK
    rw [e]
  · rw [y2_miss c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 _ _ _ _ _ y h, y1_hit c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 _ _ _ _ _ y (by omega)]
    have e : y (0 : Fin 3) = (0 : Fin 2) := Fin.ext (by show (y (0 : Fin 3)).val = 0; omega)
    unfold yK
    rw [e]

/-- The scale scratch after both loops. -/
theorem s_read (f : BufTy.Contents (Elt F) arg16.view.ty) :
    arg16.view.read (Elt F) (arg16.view.writes (Elt F) f
      ((pb_k0_t2 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (sc 1) (sh 1) X4 X7 k0_t2_loop.trips).2.2
        ++ (pb_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (sc 0) (sh 0) X4 X7 k0_t1_loop.trips).2.2))
      = sK sc sh (arg4.view.read (Elt F) X4) (bI i) (arg16.view.read (Elt F) f) := by
  funext y
  rw [View.writes_append]
  have hb : (i 0).val < 12 := (i 0).isLt
  show _ = if (y (1 : Fin 3)).val = (i 0).val then _ else if (y (1 : Fin 3)).val = 12 + (i 0).val then _ else _
  by_cases h : (y (1 : Fin 3)).val = 12 + (i 0).val
  · rw [s2_hit c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 _ _ _ _ _ y h, if_neg (by omega), if_pos h]
  · rw [s2_miss c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 _ _ _ _ _ y h, if_neg h]
    by_cases h' : (y (1 : Fin 3)).val = (i 0).val
    · rw [s1_hit c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 _ _ _ _ _ y (by omega), if_pos h']
    · rw [s1_miss c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 _ _ _ _ _ y (by omega), if_neg h']

end After

end Cert.KernelIdeal.Hand

end
-- ==== Proof.KRun.lean ====
/-
  Hand-written, untrusted. The kernel's body run once, with the values it leaves: the loads and stores of the point are
  read off the run as the functions of `KPoint`.
-/
module

public import proofs.«01_k».proof.Proof.Gen.KernelIdeal.Frame
public import proofs.«01_k».proof.Proof.Gen.KernelIdeal.Launch
public import proofs.«01_k».proof.Proof.Gen.KernelIdeal.Loops
public import proofs.«01_k».proof.Proof.Gen.KernelIdeal.Points
public import proofs.«01_k».proof.Proof.Gen.KernelIdeal.Skeleton
public import proofs.«01_k».proof.Proof.KPoint
public import Idealize.ShloMosaic.Lib.Pipeline.FrameBody
public import Idealize.ShloMosaic.Lib.Pipeline.Frame
public import Idealize.ShloMosaic.Lib.Pipeline.Value
public import Idealize.ShloMosaic.Lib.WritesUnit
public import Idealize.ShloMosaic.Lib.Pointwise
public import Idealize.ShloMosaic.Lib.Tactic

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Reads

variable (c : Dev nD) (i : grid0.Coords) (arg1 : Memref sig .tc .smem S12 .f32) (harg1 : arg1.IsWhole) (arg2 : Memref sig .tc .smem S12 .f32) (harg2 : arg2.IsWhole) (arg3 : Memref sig .tc .smem S12 .f32) (harg3 : arg3.IsWhole) (arg4 : Memref sig .tc .vmem S2x1x768x1152 .bf16) (harg4 : arg4.IsWhole) (arg5 : Memref sig .tc .vmem S24x1152 .f32) (harg5 : arg5.IsWhole) (arg6 : Memref sig .tc .vmem S24x1152 .f32) (harg6 : arg6.IsWhole) (arg7 : Memref sig .tc .vmem S16x1152 .fp8e4m3) (harg7 : arg7.IsWhole) (arg8 : Memref sig .tc .vmem S1x16 .f32) (harg8 : arg8.IsWhole) (arg9 : Memref sig .tc .vmem S1x16 .f32) (harg9 : arg9.IsWhole) (arg10 : Memref sig .tc .vmem S1x4x48x64 .f32) (harg10 : arg10.IsWhole) (arg11 : Memref sig .tc .vmem S1x4x48x64 .f32) (harg11 : arg11.IsWhole) (arg12 : Memref sig .tc .vmem S1x4x48x64 .bf16) (harg12 : arg12.IsWhole) (arg13 : Memref sig .tc .vmem S2x1x768x1152 .fp8e4m3) (harg13 : arg13.IsWhole) (arg14 : Memref sig .tc .vmem S24x768 .f32) (harg14 : arg14.IsWhole) (arg15 : Memref sig .tc .vmem S2x16x768 .f32) (harg15 : arg15.IsWhole) (arg16 : Memref sig .tc .vmem S6x24x128 .f32) (harg16 : arg16.IsWhole) (arg17 : Memref sig .tc .vmem S4x48x64 .f32) (harg17 : arg17.IsWhole)

/-- The codes after both loops, of the rows the point loads. -/
theorem codes_pt (X4 : BufTy.Contents (Elt F) arg4.view.ty) (X5 : BufTy.Contents (Elt F) arg5.view.ty) (X6 : BufTy.Contents (Elt F) arg6.view.ty) (X7 : BufTy.Contents (Elt F) arg7.view.ty) (X13 : BufTy.Contents (Elt F) arg13.view.ty) :
    arg13.view.read (Elt F) (arg13.view.writes (Elt F) X13 ((pb_k0_t2 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (View.readAt (Elt F) arg6.view (Rect.unit (s := S24x1152) (k0_off1 i 12#32) S1x1152.size (k0_off1_inb i 1)).toLoadRect X6) (View.readAt (Elt F) arg5.view (Rect.unit (s := S24x1152) (k0_off1 i 12#32) S1x1152.size (k0_off1_inb i 1)).toLoadRect X5) X4 X7 k0_t2_loop.trips).1 ++ (pb_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (View.readAt (Elt F) arg6.view (Rect.unit (s := S24x1152) (k0_off1 i 0#32) S1x1152.size (k0_off1_inb i 0)).toLoadRect X6) (View.readAt (Elt F) arg5.view (Rect.unit (s := S24x1152) (k0_off1 i 0#32) S1x1152.size (k0_off1_inb i 0)).toLoadRect X5) X4 X7 k0_t1_loop.trips).1))
      = codesK (rowK (arg6.view.read (Elt F) X6) (bI i)) (rowK (arg5.view.read (Elt F) X5) (bI i)) (arg4.view.read (Elt F) X4) := by
  rw [row_ld0, row_ld0, row_ld1, row_ld1]
  exact codes_read c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (rowK _ _) (rowK _ _) X4 X7 X13

/-- The scaled products after both loops. -/
theorem y_pt (X4 : BufTy.Contents (Elt F) arg4.view.ty) (X5 : BufTy.Contents (Elt F) arg5.view.ty) (X6 : BufTy.Contents (Elt F) arg6.view.ty) (X7 : BufTy.Contents (Elt F) arg7.view.ty) (X15 : BufTy.Contents (Elt F) arg15.view.ty) :
    arg15.view.read (Elt F) (arg15.view.writes (Elt F) X15 ((pb_k0_t2 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (View.readAt (Elt F) arg6.view (Rect.unit (s := S24x1152) (k0_off1 i 12#32) S1x1152.size (k0_off1_inb i 1)).toLoadRect X6) (View.readAt (Elt F) arg5.view (Rect.unit (s := S24x1152) (k0_off1 i 12#32) S1x1152.size (k0_off1_inb i 1)).toLoadRect X5) X4 X7 k0_t2_loop.trips).2.1 ++ (pb_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (View.readAt (Elt F) arg6.view (Rect.unit (s := S24x1152) (k0_off1 i 0#32) S1x1152.size (k0_off1_inb i 0)).toLoadRect X6) (View.readAt (Elt F) arg5.view (Rect.unit (s := S24x1152) (k0_off1 i 0#32) S1x1152.size (k0_off1_inb i 0)).toLoadRect X5) X4 X7 k0_t1_loop.trips).2.1))
      = yK (rowK (arg6.view.read (Elt F) X6) (bI i)) (rowK (arg5.view.read (Elt F) X5) (bI i)) (arg4.view.read (Elt F) X4) (arg7.view.read (Elt F) X7) := by
  rw [row_ld0, row_ld0, row_ld1, row_ld1]
  exact y_read c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (rowK _ _) (rowK _ _) X4 X7 X15

/-- The scale scratch after both loops. -/
theorem s_pt (X4 : BufTy.Contents (Elt F) arg4.view.ty) (X5 : BufTy.Contents (Elt F) arg5.view.ty) (X6 : BufTy.Contents (Elt F) arg6.view.ty) (X7 : BufTy.Contents (Elt F) arg7.view.ty) (X16 : BufTy.Contents (Elt F) arg16.view.ty) :
    arg16.view.read (Elt F) (arg16.view.writes (Elt F) X16 ((pb_k0_t2 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (View.readAt (Elt F) arg6.view (Rect.unit (s := S24x1152) (k0_off1 i 12#32) S1x1152.size (k0_off1_inb i 1)).toLoadRect X6) (View.readAt (Elt F) arg5.view (Rect.unit (s := S24x1152) (k0_off1 i 12#32) S1x1152.size (k0_off1_inb i 1)).toLoadRect X5) X4 X7 k0_t2_loop.trips).2.2 ++ (pb_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (View.readAt (Elt F) arg6.view (Rect.unit (s := S24x1152) (k0_off1 i 0#32) S1x1152.size (k0_off1_inb i 0)).toLoadRect X6) (View.readAt (Elt F) arg5.view (Rect.unit (s := S24x1152) (k0_off1 i 0#32) S1x1152.size (k0_off1_inb i 0)).toLoadRect X5) X4 X7 k0_t1_loop.trips).2.2))
      = sK (rowK (arg6.view.read (Elt F) X6) (bI i)) (rowK (arg5.view.read (Elt F) X5) (bI i)) (arg4.view.read (Elt F) X4) (bI i) (arg16.view.read (Elt F) X16) := by
  rw [row_ld0, row_ld0, row_ld1, row_ld1]
  exact s_read c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (rowK _ _) (rowK _ _) X4 X7 X16

/-- The point's prediction, of what it loads. -/
theorem pred_read (X1 : BufTy.Contents (Elt F) arg1.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X15 : BufTy.Contents (Elt F) arg15.view.ty) (z : S1.Idx) :
    predF (k0_pay41 (View.readAt (Elt F) arg8.view (Rect.unit (s := S1x16) ![0, 0] S1x16.size inb_S1x16_S1x16_0_0).toLoadRect X8)) (k0_pay42 (View.readAt (Elt F) arg9.view (Rect.unit (s := S1x16) ![0, 0] S1x16.size inb_S1x16_S1x16_0_0).toLoadRect X9))
      (View.readAt (Elt F) arg15.view (Rect.unit (s := S2x16x768) ![0, 0, 0] S1x16x768.size inb_S2x16x768_S1x16x768_0_0_0).toLoadRect (arg15.view.writes (Elt F) X15 ((pb_k0_t2 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (View.readAt (Elt F) arg6.view (Rect.unit (s := S24x1152) (k0_off1 i 12#32) S1x1152.size (k0_off1_inb i 1)).toLoadRect X6) (View.readAt (Elt F) arg5.view (Rect.unit (s := S24x1152) (k0_off1 i 12#32) S1x1152.size (k0_off1_inb i 1)).toLoadRect X5) X4 X7 k0_t2_loop.trips).2.1 ++ (pb_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (View.readAt (Elt F) arg6.view (Rect.unit (s := S24x1152) (k0_off1 i 0#32) S1x1152.size (k0_off1_inb i 0)).toLoadRect X6) (View.readAt (Elt F) arg5.view (Rect.unit (s := S24x1152) (k0_off1 i 0#32) S1x1152.size (k0_off1_inb i 0)).toLoadRect X5) X4 X7 k0_t1_loop.trips).2.1))) (View.readAt (Elt F) arg15.view (Rect.unit (s := S2x16x768) ![1, 0, 0] S1x16x768.size inb_S2x16x768_S1x16x768_1_0_0).toLoadRect (arg15.view.writes (Elt F) X15 ((pb_k0_t2 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (View.readAt (Elt F) arg6.view (Rect.unit (s := S24x1152) (k0_off1 i 12#32) S1x1152.size (k0_off1_inb i 1)).toLoadRect X6) (View.readAt (Elt F) arg5.view (Rect.unit (s := S24x1152) (k0_off1 i 12#32) S1x1152.size (k0_off1_inb i 1)).toLoadRect X5) X4 X7 k0_t2_loop.trips).2.1 ++ (pb_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (View.readAt (Elt F) arg6.view (Rect.unit (s := S24x1152) (k0_off1 i 0#32) S1x1152.size (k0_off1_inb i 0)).toLoadRect X6) (View.readAt (Elt F) arg5.view (Rect.unit (s := S24x1152) (k0_off1 i 0#32) S1x1152.size (k0_off1_inb i 0)).toLoadRect X5) X4 X7 k0_t1_loop.trips).2.1)))
      ((View.readAt (Elt F) arg1.view (Rect.unit (s := S12) (k0_off8 i) S1.size (k0_off8_inb i)).toLoadRect X1) z)
    = predK (arg1.view.read (Elt F) X1) (arg4.view.read (Elt F) X4) (arg5.view.read (Elt F) X5) (arg6.view.read (Elt F) X6) (arg7.view.read (Elt F) X7) (arg8.view.read (Elt F) X8) (arg9.view.read (Elt F) X9) (bI i) := by
  have e0 := half_ld arg15.view (arg15.view.writes (Elt F) X15 ((pb_k0_t2 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (View.readAt (Elt F) arg6.view (Rect.unit (s := S24x1152) (k0_off1 i 12#32) S1x1152.size (k0_off1_inb i 1)).toLoadRect X6) (View.readAt (Elt F) arg5.view (Rect.unit (s := S24x1152) (k0_off1 i 12#32) S1x1152.size (k0_off1_inb i 1)).toLoadRect X5) X4 X7 k0_t2_loop.trips).2.1 ++ (pb_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (View.readAt (Elt F) arg6.view (Rect.unit (s := S24x1152) (k0_off1 i 0#32) S1x1152.size (k0_off1_inb i 0)).toLoadRect X6) (View.readAt (Elt F) arg5.view (Rect.unit (s := S24x1152) (k0_off1 i 0#32) S1x1152.size (k0_off1_inb i 0)).toLoadRect X5) X4 X7 k0_t1_loop.trips).2.1)) 0 inb_S2x16x768_S1x16x768_0_0_0
  have e1 := half_ld arg15.view (arg15.view.writes (Elt F) X15 ((pb_k0_t2 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (View.readAt (Elt F) arg6.view (Rect.unit (s := S24x1152) (k0_off1 i 12#32) S1x1152.size (k0_off1_inb i 1)).toLoadRect X6) (View.readAt (Elt F) arg5.view (Rect.unit (s := S24x1152) (k0_off1 i 12#32) S1x1152.size (k0_off1_inb i 1)).toLoadRect X5) X4 X7 k0_t2_loop.trips).2.1 ++ (pb_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (View.readAt (Elt F) arg6.view (Rect.unit (s := S24x1152) (k0_off1 i 0#32) S1x1152.size (k0_off1_inb i 0)).toLoadRect X6) (View.readAt (Elt F) arg5.view (Rect.unit (s := S24x1152) (k0_off1 i 0#32) S1x1152.size (k0_off1_inb i 0)).toLoadRect X5) X4 X7 k0_t1_loop.trips).2.1)) 1 inb_S2x16x768_S1x16x768_1_0_0
  rw [y_pt] at e0 e1
  unfold predK
  rw [← e0, ← e1, ← word_ld arg1 X1 i (k0_off8_inb i) z, whole_ld arg8.view X8 zero2 inb_S1x16_S1x16_0_0, whole_ld arg9.view X9 zero2 inb_S1x16_S1x16_0_0]
  rfl

end Reads

/-- The point's new latent, of what it loads. -/
theorem lat_read (i : grid0.Coords) (arg10 : Memref sig .tc .vmem S1x4x48x64 .f32) (arg3 arg2 : Memref sig .tc .smem S12 .f32)
    (X10 : BufTy.Contents (Elt F) arg10.view.ty) (X3 : BufTy.Contents (Elt F) arg3.view.ty) (X2 : BufTy.Contents (Elt F) arg2.view.ty)
    (v : FVec F S16x768 .f32) (z3 z2 : S1.Idx) :
    k0_pay1 (k0_pay155 (imgK v)
      (View.readAt (Elt F) arg10.view (Rect.unit (s := S1x4x48x64) ![0, 0, 0, 0] S1x4x48x64.size inb_S1x4x48x64_S1x4x48x64_0_0_0_0).toLoadRect X10)
      (View.readAt (Elt F) arg3.view (Rect.unit (s := S12) (k0_off8 i) S1.size (k0_off8_inb i)).toLoadRect X3 z3)
      (View.readAt (Elt F) arg2.view (Rect.unit (s := S12) (k0_off8 i) S1.size (k0_off8_inb i)).toLoadRect X2 z2))
    = latK v (arg10.view.read (Elt F) X10) (arg3.view.read (Elt F) X3) (arg2.view.read (Elt F) X2) (bI i) := by
  rw [whole_ld arg10.view X10 zero4, word_ld, word_ld]
  rfl

set_option maxHeartbeats 8000000 in
/-- The body's triple with its values, for any continuation: from every input at its contents, the copied scales and the
    scale scratch at theirs, and the rest at anything, the kernel runs to its return; it hands the inputs back unchanged and
    leaves the point's latent, velocity and codes in their buffers and the scales of its rows in the scratch. -/
theorem kernelRun (c : Dev nD) (i : grid0.Coords) (arg1 : Memref sig .tc .smem S12 .f32) (harg1 : arg1.IsWhole) (arg2 : Memref sig .tc .smem S12 .f32) (harg2 : arg2.IsWhole) (arg3 : Memref sig .tc .smem S12 .f32) (harg3 : arg3.IsWhole) (arg4 : Memref sig .tc .vmem S2x1x768x1152 .bf16) (harg4 : arg4.IsWhole) (arg5 : Memref sig .tc .vmem S24x1152 .f32) (harg5 : arg5.IsWhole) (arg6 : Memref sig .tc .vmem S24x1152 .f32) (harg6 : arg6.IsWhole) (arg7 : Memref sig .tc .vmem S16x1152 .fp8e4m3) (harg7 : arg7.IsWhole) (arg8 : Memref sig .tc .vmem S1x16 .f32) (harg8 : arg8.IsWhole) (arg9 : Memref sig .tc .vmem S1x16 .f32) (harg9 : arg9.IsWhole) (arg10 : Memref sig .tc .vmem S1x4x48x64 .f32) (harg10 : arg10.IsWhole) (arg11 : Memref sig .tc .vmem S1x4x48x64 .f32) (harg11 : arg11.IsWhole) (arg12 : Memref sig .tc .vmem S1x4x48x64 .bf16) (harg12 : arg12.IsWhole) (arg13 : Memref sig .tc .vmem S2x1x768x1152 .fp8e4m3) (harg13 : arg13.IsWhole) (arg14 : Memref sig .tc .vmem S24x768 .f32) (harg14 : arg14.IsWhole) (arg15 : Memref sig .tc .vmem S2x16x768 .f32) (harg15 : arg15.IsWhole) (arg16 : Memref sig .tc .vmem S6x24x128 .f32) (harg16 : arg16.IsWhole) (arg17 : Memref sig .tc .vmem S4x48x64 .f32) (harg17 : arg17.IsWhole)
    (x1 : S12.Idx → Elt F .f32) (x2 : S12.Idx → Elt F .f32) (x3 : S12.Idx → Elt F .f32) (x4 : S2x1x768x1152.Idx → Elt F .bf16) (x5 : S24x1152.Idx → Elt F .f32) (x6 : S24x1152.Idx → Elt F .f32) (x7 : S16x1152.Idx → Elt F .fp8e4m3) (x8 : S1x16.Idx → Elt F .f32) (x9 : S1x16.Idx → Elt F .f32) (x10 : S1x4x48x64.Idx → Elt F .f32) (d14 : S24x768.Idx → Elt F .f32) (d16 : S6x24x128.Idx → Elt F .f32) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ (∃ d, owns (c : Thread nD τ) arg11 fullShare d) ∗ (∃ d, owns (c : Thread nD τ) arg12 fullShare d) ∗ (∃ d, owns (c : Thread nD τ) arg13 fullShare d) ∗ owns (c : Thread nD τ) arg14 fullShare d14 ∗ (∃ d, owns (c : Thread nD τ) arg15 fullShare d) ∗ owns (c : Thread nD τ) arg16 fullShare d16 ∗ (∃ d, owns (c : Thread nD τ) arg17 fullShare d)
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare (latK (predK x1 x4 x5 x6 x7 x8 x9 (bI i)) x10 x3 x2 (bI i)) ∗ owns (c : Thread nD τ) arg12 fullShare (voutK (predK x1 x4 x5 x6 x7 x8 x9 (bI i))) ∗ owns (c : Thread nD τ) arg13 fullShare (codesK (rowK x6 (bI i)) (rowK x5 (bI i)) x4) ∗ owns (c : Thread nD τ) arg14 fullShare (xsAfter i (sK (rowK x6 (bI i)) (rowK x5 (bI i)) x4 (bI i) d16) d14) ∗ (∃ d, owns (c : Thread nD τ) arg15 fullShare d) ∗ owns (c : Thread nD τ) arg16 fullShare (sK (rowK x6 (bI i)) (rowK x5 (bI i)) x4 (bI i) d16) ∗ (∃ d, owns (c : Thread nD τ) arg17 fullShare d)) -∗ K ⟨⟩))
      ⊢ wp frame (wpE (defs₀ (F := F)) Variants.none c none) Set.univ
          (cc0_dit_final (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc0_dit_final_eq_skeleton]; unfold cc0_dit_final_skel
  unfold owns
  iintro ⟨⟨%f1, %h1, H1⟩, ⟨%f2, %h2, H2⟩, ⟨%f3, %h3, H3⟩, ⟨%f4, %h4, H4⟩, ⟨%f5, %h5, H5⟩, ⟨%f6, %h6, H6⟩, ⟨%f7, %h7, H7⟩, ⟨%f8, %h8, H8⟩, ⟨%f9, %h9, H9⟩, ⟨%f10, %h10, H10⟩, ⟨%d11, %f11, -, H11⟩, ⟨%d12, %f12, -, H12⟩, ⟨%d13, %f13, -, H13⟩, ⟨%f14, %h14, H14⟩, ⟨%d15, %f15, -, H15⟩, ⟨%f16, %h16, H16⟩, ⟨%d17, %f17, -, H17⟩, Hk⟩
  subst h1 h2 h3 h4 h5 h6 h7 h8 h9 h10 h14 h16
  by_cases hc : k0_cond1 i = 1#1
  all_goals
  sl_exec (disch := sl_exact hc)
  sl_step
  iapply Hk
  isplitl [H1]
  · iexists _; isplitr; swap; · iexact H1
    ipureintro; rfl
  isplitl [H2]
  · iexists _; isplitr; swap; · iexact H2
    ipureintro; rfl
  isplitl [H3]
  · iexists _; isplitr; swap; · iexact H3
    ipureintro; rfl
  isplitl [H4]
  · iexists _; isplitr; swap; · iexact H4
    ipureintro; rfl
  isplitl [H5]
  · iexists _; isplitr; swap; · iexact H5
    ipureintro; rfl
  isplitl [H6]
  · iexists _; isplitr; swap; · iexact H6
    ipureintro; rfl
  isplitl [H7]
  · iexists _; isplitr; swap; · iexact H7
    ipureintro; rfl
  isplitl [H8]
  · iexists _; isplitr; swap; · iexact H8
    ipureintro; rfl
  isplitl [H9]
  · iexists _; isplitr; swap; · iexact H9
    ipureintro; rfl
  isplitl [H10]
  · iexists _; isplitr; swap; · iexact H10
    ipureintro; rfl
  isplitl [H11]
  · iexists _; isplitr; swap; · iexact H11
    ipureintro
    refine (read_whole arg11.view _ zero4 _ _).trans ?_
    sl_unfold_run_names
    refine (congrArg (fun w => k0_pay1 (k0_pay155 w _ _ _)) ((img_read _ _ ?_ _).trans (congrArg imgK (pred_read c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f1 f4 f5 f6 f7 f8 f9 f15 (Shape.Idx.first (by decide)))))).trans ?_
    · repeat' first
        | exact List.Forall₂.nil
        | refine List.Forall₂.cons (img_tile _ _ (by decide) _ _ rfl) ?_
    · exact lat_read i arg10 arg3 arg2 f10 f3 f2 _ (Shape.Idx.first (by decide)) (Shape.Idx.first (by decide))
  isplitl [H12]
  · iexists _; isplitr; swap; · iexact H12
    ipureintro
    refine (read_whole arg12.view _ zero4 _ _).trans ?_
    sl_unfold_run_names
    refine congrArg k0_pay2 ((img_read _ _ ?_ _).trans (congrArg imgK (pred_read c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f1 f4 f5 f6 f7 f8 f9 f15 (Shape.Idx.first (by decide)))))
    repeat' first
      | exact List.Forall₂.nil
      | refine List.Forall₂.cons (img_tile _ _ (by decide) _ _ rfl) ?_
  isplitl [H13]
  · iexists _; isplitr; swap; · iexact H13
    ipureintro
    exact codes_pt c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f4 f5 f6 f7 f13
  isplitl [H14]
  · iexists _; isplitr; swap; · iexact H14
    ipureintro
    first
    | exact (if_neg hc).symm
    | sl_unfold_run_names
      refine (xs_read _ f14 _ ?_).trans ((congrArg xsK (s_pt c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f4 f5 f6 f7 f16)).trans (if_pos hc).symm)
      repeat' first
        | exact List.Forall₂.nil
        | refine List.Forall₂.cons (xs_tile _ _ (by decide) _ rfl _ _) ?_
  isplitl [H15]
  · iexists _, _; isplitr; swap; · iexact H15
    ipureintro
    rfl
  isplitl [H16]
  · iexists _; isplitr; swap; · iexact H16
    ipureintro
    exact s_pt c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f4 f5 f6 f7 f16
  iexists _, _; isplitr; swap; · iexact H17
  ipureintro
  rfl

end Cert.KernelIdeal.Hand

end
-- ==== Proof.KPipe.lean ====
/-
  Hand-written, untrusted. The kernel's pipeline with values: what every grid point leaves in the output windows, the scale
  scratch tracked from point to point, and the run of @main to the final arrays.
-/
module

public import proofs.«01_k».proof.Proof.Gen.KernelIdeal.Frame
public import proofs.«01_k».proof.Proof.Gen.KernelIdeal.Launch
public import proofs.«01_k».proof.Proof.Gen.KernelIdeal.Loops
public import proofs.«01_k».proof.Proof.Gen.KernelIdeal.Points
public import proofs.«01_k».proof.Proof.Gen.KernelIdeal.Skeleton
public import proofs.«01_k».proof.Proof.KRun
public import Idealize.ShloMosaic.Lib.Pipeline.Frame
public import Idealize.ShloMosaic.Lib.Pipeline.FrameBody
public import Idealize.ShloMosaic.Lib.Pipeline.Value
public import Idealize.ShloMosaic.Lib.WritesUnit
public import Idealize.ShloMosaic.Lib.Pointwise
public import Idealize.ShloMosaic.Lib.Tactic

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The scale scratch from point to point -/

/-- The grid point of image `b`. -/
def pt (b : Fin 12) : Fin cfg0.N := ⟨b.val, lt_of_lt_of_eq b.isLt N_0.symm⟩

/-- The coordinate of a point is its number. -/
theorem coord_pt : ∀ t : Fin grid0.N, (grid0.coords t 0).val = t.val := by decide +kernel

/-- The last point's condition. -/
theorem cond_iff : ∀ t : Fin grid0.N, k0_cond1 (grid0.coords t) = 1#1 ↔ t.val = 11 := by decide +kernel

/-- A row of the scale scratch at point `t`: half `h`, chunk `k`, lane `z`. -/
def sRow (c : Dev nD) (t : Fin cfg0.N) (h : Fin 2) (k : Fin 6) (z : Fin 128) : Elt F .f32 :=
  srowC (rowK (iblk m c 5 t) (bI (grid0.coords t)) h) (rowK (iblk m c 4 t) (bI (grid0.coords t)) h) (chunk (iblk m c 3 t) h k) (ix3 0 0 z)

/-- The scale scratch once every point has run. -/
def sFull (c : Dev nD) : S6x24x128.Idx → Elt F .f32 := fun y =>
  sRow m c (pt ⟨(y (1 : Fin 3)).val % 12, Nat.mod_lt _ (by decide)⟩)
    ⟨(y (1 : Fin 3)).val / 12, by have h : (y (1 : Fin 3)).val < 24 := (y (1 : Fin 3)).isLt; omega⟩ (y (0 : Fin 3)) (y (2 : Fin 3))

/-- The scratch holds the scales of the images before `n`. -/
def SOk (c : Dev nD) (n : ℕ) (d : S6x24x128.Idx → Elt F .f32) : Prop :=
  ∀ y : S6x24x128.Idx, (y (1 : Fin 3)).val % 12 < n → d y = sFull m c y

/-- A point adds the scales of its own two images. -/
theorem SOk_step (c : Dev nD) (t : Fin cfg0.N) (d : S6x24x128.Idx → Elt F .f32) (h : SOk m c t.val d) :
    SOk m c (t.val + 1) (sK (rowK (iblk m c 5 t) (bI (grid0.coords t))) (rowK (iblk m c 4 t) (bI (grid0.coords t))) (iblk m c 3 t) (bI (grid0.coords t)) d) := by
  intro y hy
  have h1 : (y (1 : Fin 3)).val < 24 := (y (1 : Fin 3)).isLt
  have ht : t.val < 12 := lt_of_lt_of_eq t.isLt N_0
  have hb : (bI (grid0.coords t)).val = t.val := coord_pt t
  unfold sK
  rw [hb]
  have key : ∀ hh : Fin 2, (y (1 : Fin 3)).val = 12 * hh.val + t.val →
      srowC (rowK (iblk m c 5 t) (bI (grid0.coords t)) hh) (rowK (iblk m c 4 t) (bI (grid0.coords t)) hh) (chunk (iblk m c 3 t) hh (y (0 : Fin 3))) (ix3 0 0 (y (2 : Fin 3))) = sFull m c y := by
    intro hh e
    have e1 : pt ⟨(y (1 : Fin 3)).val % 12, Nat.mod_lt _ (by decide)⟩ = t := Fin.ext (by show (y (1 : Fin 3)).val % 12 = t.val; omega)
    have e2 : (⟨(y (1 : Fin 3)).val / 12, by omega⟩ : Fin 2) = hh := Fin.ext (by show (y (1 : Fin 3)).val / 12 = hh.val; omega)
    unfold sFull
    rw [e1, e2]
    rfl
  by_cases c0 : (y (1 : Fin 3)).val = t.val
  · rw [if_pos c0]; exact key 0 (by show (y (1 : Fin 3)).val = 12 * 0 + t.val; omega)
  · rw [if_neg c0]
    by_cases c1 : (y (1 : Fin 3)).val = 12 + t.val
    · rw [if_pos c1]; exact key 1 (by show (y (1 : Fin 3)).val = 12 * 1 + t.val; omega)
    · rw [if_neg c1]; exact h y (by omega)

/-! ## The proof data -/

/-- The invariant before point `n`: the products' and the image's scratch at some contents, the scale scratch holding the
    scales of the images before `n`, the generator register at some state. -/
def PhiS (c : Dev nD) (n : ℕ) : sProp 𝕄 :=
  iprop(iprop((∃ d, owns (c : Thread nD τ) (Memref.whole cc0_scratch0) fullShare d)
          ∗ (∃ d, ⌜SOk m c n d⌝ ∗ owns (c : Thread nD τ) (Memref.whole cc0_scratch1) fullShare d)
          ∗ (∃ d, owns (c : Thread nD τ) (Memref.whole cc0_scratch2) fullShare d)) ∗ (∃ r, prngReg c r))

/-- The proof data on core `c`: every array as the region finds it; every input's block left in place; the outputs at the
    values of the point; full shares; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => latK (predK (iblk m c 0 t) (iblk m c 3 t) (iblk m c 4 t) (iblk m c 5 t) (iblk m c 6 t) (iblk m c 7 t) (iblk m c 8 t) (bI (grid0.coords t))) (iblk m c 9 t) (iblk m c 2 t) (iblk m c 1 t) (bI (grid0.coords t))
    | ⟨11, _⟩ => voutK (predK (iblk m c 0 t) (iblk m c 3 t) (iblk m c 4 t) (iblk m c 5 t) (iblk m c 6 t) (iblk m c 7 t) (iblk m c 8 t) (bI (grid0.coords t)))
    | ⟨12, _⟩ => codesK (rowK (iblk m c 5 t) (bI (grid0.coords t))) (rowK (iblk m c 4 t) (bI (grid0.coords t))) (iblk m c 3 t)
    | ⟨13, _⟩ => xsK (sFull m c)
  Φ t := PhiS m c t.val
  q _ := fullShare
  owed _ := 0

/-- The proof data's arrays are the region-entry contents. -/
theorem A_eq (c : Dev nD) (w : Fin cfg0.W) : (dats m 0 c).A w = V m c (Pipeline.arrRef spec0 w) := by
  dsimp only [dats]

/-- What the body leaves in each input's buffer is its block. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
/-- What the body leaves in each output's buffer. -/
theorem after0_10 (c : Dev nD) (t : Fin cfg0.N) : (dats m 0 c).after 10 t = latK (predK (iblk m c 0 t) (iblk m c 3 t) (iblk m c 4 t) (iblk m c 5 t) (iblk m c 6 t) (iblk m c 7 t) (iblk m c 8 t) (bI (grid0.coords t))) (iblk m c 9 t) (iblk m c 2 t) (iblk m c 1 t) (bI (grid0.coords t)) := by dsimp only [dats]
theorem after0_11 (c : Dev nD) (t : Fin cfg0.N) : (dats m 0 c).after 11 t = voutK (predK (iblk m c 0 t) (iblk m c 3 t) (iblk m c 4 t) (iblk m c 5 t) (iblk m c 6 t) (iblk m c 7 t) (iblk m c 8 t) (bI (grid0.coords t))) := by dsimp only [dats]
theorem after0_12 (c : Dev nD) (t : Fin cfg0.N) : (dats m 0 c).after 12 t = codesK (rowK (iblk m c 5 t) (bI (grid0.coords t))) (rowK (iblk m c 4 t) (bI (grid0.coords t))) (iblk m c 3 t) := by dsimp only [dats]
theorem after0_13 (c : Dev nD) (t : Fin cfg0.N) : (dats m 0 c).after 13 t = xsK (sFull m c) := by dsimp only [dats]

/-- Each input's current staging buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d

/-- What the copied scales' window holds after point `t`: at the points that do not write it what it held, at the last its value. -/
def leave13 (c : Dev nD) (t : Fin cfg0.N) : sProp 𝕄 :=
  match cfg0.idle 13 (cfg0.grid.coords t) with
  | true =>
    match (cfg0.win 13).flush t with
    | false => iprop(∃ d, owns (c : Thread nD τ) (st0_13 t) fullShare ((dats m 0 c).before 13 t d))
    | true => owns (c : Thread nD τ) (st0_13 t) fullShare ((dats m 0 c).after 13 t)
  | false => owns (c : Thread nD τ) (st0_13 t) fullShare ((dats m 0 c).after 13 t)

/-- What the body leaves in the copied scales' window is what the window holds after the point. -/
theorem leave13_of (c : Dev nD) (t : Fin cfg0.N) (d13) (d : S6x24x128.Idx → Elt F .f32) (h : SOk m c (t.val + 1) d) :
    (owns (c : Thread nD τ) (st0_13 t) fullShare (xsAfter (grid0.coords t) d ((dats m 0 c).before 13 t d13)) : sProp 𝕄) ⊢ leave13 m c t := by
  have ht : t.val < 12 := lt_of_lt_of_eq t.isLt N_0
  by_cases hc : k0_cond1 (grid0.coords t) = 1#1
  · have e : (cfg0.idle 13 (cfg0.grid.coords t)) = false := by
      show (!(k0_cond1 (grid0.coords t) == 1#1)) = false
      rw [hc]; rfl
    have t11 := (cond_iff t).mp hc
    have ed : d = sFull m c := funext fun y => h y (by have := Nat.mod_lt (y (1 : Fin 3)).val (show 12 > 0 by decide); omega)
    unfold leave13
    rw [e, after0_13]
    unfold xsAfter
    rw [if_pos hc, ed]
  · have e : (cfg0.idle 13 (cfg0.grid.coords t)) = true := by
      show (!(k0_cond1 (grid0.coords t) == 1#1)) = true
      simp [hc]
    have f : (cfg0.win 13).flush t = false := by
      rw [Bool.eq_false_iff]
      intro hf
      have h11 := (flush0_13 t).mp hf
      exact hc ((cond_iff t).mpr (by omega))
    unfold leave13
    rw [e]
    show _ ⊢ (match (cfg0.win 13).flush t with
      | false => iprop(∃ d, owns (c : Thread nD τ) (st0_13 t) fullShare ((dats m 0 c).before 13 t d))
      | true => owns (c : Thread nD τ) (st0_13 t) fullShare ((dats m 0 c).after 13 t))
    rw [f]
    unfold xsAfter
    rw [if_neg hc]
    iintro H
    iexists _
    iexact H

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ d, owns (c : Thread nD τ) (st0_6 t) fullShare ((dats m 0 c).before 6 t d)) ∗ (∃ d, owns (c : Thread nD τ) (st0_7 t) fullShare ((dats m 0 c).before 7 t d)) ∗ (∃ d, owns (c : Thread nD τ) (st0_8 t) fullShare ((dats m 0 c).before 8 t d)) ∗ (∃ d, owns (c : Thread nD τ) (st0_9 t) fullShare ((dats m 0 c).before 9 t d)) ∗ (∃ d, owns (c : Thread nD τ) (st0_10 t) fullShare ((dats m 0 c).before 10 t d)) ∗ (∃ d, owns (c : Thread nD τ) (st0_11 t) fullShare ((dats m 0 c).before 11 t d)) ∗ (∃ d, owns (c : Thread nD τ) (st0_12 t) fullShare ((dats m 0 c).before 12 t d)) ∗ (∃ d, owns (c : Thread nD τ) (st0_13 t) fullShare ((dats m 0 c).before 13 t d)))
/-- What the body returns at point `t`. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t) ∗ owns (c : Thread nD τ) (st0_5 t) fullShare ((dats m 0 c).after 5 t) ∗ owns (c : Thread nD τ) (st0_6 t) fullShare ((dats m 0 c).after 6 t) ∗ owns (c : Thread nD τ) (st0_7 t) fullShare ((dats m 0 c).after 7 t) ∗ owns (c : Thread nD τ) (st0_8 t) fullShare ((dats m 0 c).after 8 t) ∗ owns (c : Thread nD τ) (st0_9 t) fullShare ((dats m 0 c).after 9 t) ∗ owns (c : Thread nD τ) (st0_10 t) fullShare ((dats m 0 c).after 10 t) ∗ owns (c : Thread nD τ) (st0_11 t) fullShare ((dats m 0 c).after 11 t) ∗ owns (c : Thread nD τ) (st0_12 t) fullShare ((dats m 0 c).after 12 t) ∗ leave13 m c t)

/-- The class invariant: the three scratch buffers at some contents and the generator register at some state. -/
theorem PhiA_eq (c : Dev nD) :
    (Pipeline.ΦA spec0 c : sProp 𝕄)
      = iprop(iprop((∃ d, owns (c : Thread nD τ) (Memref.whole cc0_scratch0) fullShare d)
          ∗ (∃ d, owns (c : Thread nD τ) (Memref.whole cc0_scratch1) fullShare d)
          ∗ (∃ d, owns (c : Thread nD τ) (Memref.whole cc0_scratch2) fullShare d)) ∗ (∃ r, prngReg c r)) := by
  unfold Pipeline.ΦA
  rw [scopedRest0_eq]; simp only [owns_whole]; try rfl

set_option maxHeartbeats 2000000 in
/-- The body at any point: the inputs' memrefs hold their blocks, the scratch is taken out of the invariant, `kernelRun`
    applies, and the scratch goes back into the invariant with the point's scales added. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9]
  rw [show (dats m 0 c).Φ t.succ = PhiS m c (t.val + 1) from rfl,
    show (dats m 0 c).owesAt () t.succ = (dats m 0 c).owesAt () t.castSucc from rfl,
    show (dats m 0 c).Φ t.castSucc = PhiS m c t.val from rfl,
    after0_0, after0_1, after0_2, after0_3, after0_4, after0_5, after0_6, after0_7, after0_8, after0_9, after0_10, after0_11, after0_12]
  unfold PhiS
  iintro ⟨⟨⟨S0, ⟨%ds, %hs, S1⟩, S2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (kernelRun c (grid0.coords t) _ _ _ _ _ _ _ _ _ _ _ _ _ _ _ _ _ _ _ _ _ _ _ _ _ _ _ _ _ _ _ _ _ _
    (iblk m c 0 t) (iblk m c 1 t) (iblk m c 2 t) (iblk m c 3 t) (iblk m c 4 t) (iblk m c 5 t) (iblk m c 6 t) (iblk m c 7 t) (iblk m c 8 t) (iblk m c 9 t) ((dats m 0 c).before 13 t d13) ds _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  isplitl [H12]; · iexists _; iexact H12
  isplitl [H13]; · iexact H13
  isplitl [S0]; · iexact S0
  isplitl [S1]; · iexact S1
  isplitl [S2]; · iexact S2
  iintro ⟨H0, H1, H2, H3, H4, H5, H6, H7, H8, H9, H10, H11, H12, H13, S0, S1, S2⟩
  isplitl [S0 S1 S2 Hg]
  · isplitl [S0 S1 S2]
    · isplitl [S0]; · iexact S0
      isplitl [S1]
      · iexists _
        isplitr
        swap
        · iexact S1
        ipureintro
        exact SOk_step m c t ds hs
      iexact S2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iapply (leave13_of m c t d13 _ (SOk_step m c t ds hs))
  iexact H13

/-- The body table's row at point `t`'s slots is the body as `bodyAt0` spells it. -/
theorem defs₀_row (t : Fin cfg0.N) : defs₀ (F := F) .tc cfg0.body (cfg0.bodyArgs t (cfg0.slots t)) = bodyAt0 t := by
  unfold defs₀; rw [Defs.onTc_tc]

/-- The library's body obligation. -/
theorem body_obligation (c : Dev nD) :
    BodyObligation (dats (F := F) m 0 c) (defs₀ (F := F)) Variants.none () Set.univ := fun t => by
  rw [bigSep_W0, bigSep_W0, defs₀_row]
  exact triple_restated (sound_body m c t) rfl .rfl fun _ => .rfl

/-! ## The launch -/

/-- The class invariant gives the tracked one before the first point. -/
theorem phi_in (c : Dev nD) : (Pipeline.ΦA spec0 c : sProp 𝕄) ⊢ (dats m 0 c).Φ 0 := by
  rw [show (dats m 0 c).Φ 0 = PhiS m c 0 from rfl, PhiA_eq]
  unfold PhiS
  iintro ⟨⟨S0, ⟨%d, S1⟩, S2⟩, Hg⟩
  isplitl [S0 S1 S2]
  · isplitl [S0]; · iexact S0
    isplitl [S1]
    · iexists d
      isplitr
      swap
      · iexact S1
      ipureintro
      exact fun y hy => absurd hy (Nat.not_lt_zero _)
    iexact S2
  iexact Hg

/-- The tracked invariant after the last point gives the class invariant back. -/
theorem phi_out (c : Dev nD) : (dats m 0 c).Φ (Fin.last cfg0.N) ⊢ (Pipeline.ΦA spec0 c : sProp 𝕄) := by
  rw [show (dats m 0 c).Φ (Fin.last cfg0.N) = PhiS m c cfg0.N from rfl, PhiA_eq]
  unfold PhiS
  iintro ⟨⟨S0, ⟨%d, %hd, S1⟩, S2⟩, Hg⟩
  isplitl [S0 S1 S2]
  · isplitl [S0]; · iexact S0
    isplitl [S1]
    · iexists d
      iexact S1
    iexact S2
  iexact Hg

-- the theorem's implicit arguments are found by unifying its conclusion with this statement, which takes unfolding plain
-- definitions in a metavariable's type
set_option backward.isDefEq.respectTransparency.types false in
set_option maxHeartbeats 800000 in
/-- Every weakly fair execution of @main terminates; every final state has every window's array at what the write-backs leave
    in it, every other buffer at its contents at the region's entry, and every semaphore counter at zero. -/
theorem run_main :
    θ_run defs (onTc (τ := τ) (main (F := F))) (s₀ m ρ)
      (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := phi_in m) (hout := phi_out m)

end Cert.KernelIdeal.Hand

end
-- ==== Proof.KFinal.lean ====
/-
  Hand-written, untrusted. What the kernel's four result arrays hold after every run, as functions of the arguments; the
  frame, read from the same run.
-/
module

public import proofs.«01_k».proof.Proof.Gen.KernelIdeal.Frame
public import proofs.«01_k».proof.Proof.Gen.KernelIdeal.Launch
public import proofs.«01_k».proof.Proof.Gen.KernelIdeal.Loops
public import proofs.«01_k».proof.Proof.Gen.KernelIdeal.Points
public import proofs.«01_k».proof.Proof.Gen.KernelIdeal.Skeleton
public import proofs.«01_k».proof.Proof.KPipe
public import Idealize.ShloMosaic.Lib.Pipeline.Frame
public import Idealize.ShloMosaic.Lib.Pipeline.FrameBody
public import Idealize.ShloMosaic.Lib.Pipeline.Value
public import Idealize.ShloMosaic.Lib.WritesUnit
public import Idealize.ShloMosaic.Lib.Pointwise
public import Idealize.ShloMosaic.Lib.StableHlo.Run
public import Idealize.ShloMosaic.Lib.Tactic

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Image `b`'s two token blocks, the conditioned one and the unconditioned one. -/
def xB (a0 : Vec F S24x768x1152 .bf16) (b : Fin 12) : S2x1x768x1152.Idx → Elt F .bf16 := fun y =>
  a0 (ix3 (⟨12 * (y (0 : Fin 4)).val + b.val, by have h : (y (0 : Fin 4)).val < 2 := (y (0 : Fin 4)).isLt; omega⟩ : Fin 24) (y (2 : Fin 4)) (y (3 : Fin 4)))

/-- The weights with the outputs first. -/
def wT (a3 : Vec F S1152x16 .fp8e4m3) : S16x1152.Idx → Elt F .fp8e4m3 := fun y => a3 (ix2 (y (1 : Fin 2)) (y (0 : Fin 2)))

/-- A vector as one row. -/
def vB (a : Vec F S16 .f32) : S1x16.Idx → Elt F .f32 := fun y => a (ix1 (y (1 : Fin 2)))

/-- Image `b`'s latent. -/
def lB (a9 : Vec F S12x4x48x64 .f32) (b : Fin 12) : S1x4x48x64.Idx → Elt F .f32 := fun y => a9 (ix4 b (y (1 : Fin 4)) (y (2 : Fin 4)) (y (3 : Fin 4)))

/-- The image of row `r` of a 24-row table, and its half. -/
def rB (r : Fin 24) : Fin 12 := ⟨r.val % 12, Nat.mod_lt _ (by decide)⟩
def rH (r : Fin 24) : Fin 2 := ⟨r.val / 12, by omega⟩

/-- The new latent that the kernel computes, as a function of the arguments. -/
def K10 (a0 : Vec F S24x768x1152 .bf16) (a1 : Vec F S24x1152 .f32) (a2 : Vec F S24x1152 .f32) (a3 : Vec F S1152x16 .fp8e4m3) (a4 : Vec F S16 .f32) (a5 : Vec F S16 .f32) (a6 : Vec F S12 .f32) (a7 : Vec F S12 .f32) (a8 : Vec F S12 .f32) (a9 : Vec F S12x4x48x64 .f32) : Vec F S12x4x48x64 .f32 := fun y =>
  latK (predK a6 (xB a0 (y (0 : Fin 4))) a1 a2 (wT a3) (vB a4) (vB a5) (y (0 : Fin 4))) (lB a9 (y (0 : Fin 4))) a8 a7 (y (0 : Fin 4)) (ix4 0 (y (1 : Fin 4)) (y (2 : Fin 4)) (y (3 : Fin 4)))

/-- The velocity that the kernel computes, as a function of the arguments. -/
def K11 (a0 : Vec F S24x768x1152 .bf16) (a1 : Vec F S24x1152 .f32) (a2 : Vec F S24x1152 .f32) (a3 : Vec F S1152x16 .fp8e4m3) (a4 : Vec F S16 .f32) (a5 : Vec F S16 .f32) (a6 : Vec F S12 .f32) (a7 : Vec F S12 .f32) (a8 : Vec F S12 .f32) (a9 : Vec F S12x4x48x64 .f32) : Vec F S12x4x48x64 .bf16 := fun y =>
  voutK (predK a6 (xB a0 (y (0 : Fin 4))) a1 a2 (wT a3) (vB a4) (vB a5) (y (0 : Fin 4))) (ix4 0 (y (1 : Fin 4)) (y (2 : Fin 4)) (y (3 : Fin 4)))

/-- The codes that the kernel computes, as a function of the arguments. -/
def K12 (a0 : Vec F S24x768x1152 .bf16) (a1 : Vec F S24x1152 .f32) (a2 : Vec F S24x1152 .f32) (a3 : Vec F S1152x16 .fp8e4m3) (a4 : Vec F S16 .f32) (a5 : Vec F S16 .f32) (a6 : Vec F S12 .f32) (a7 : Vec F S12 .f32) (a8 : Vec F S12 .f32) (a9 : Vec F S12x4x48x64 .f32) : Vec F S2x12x768x1152 .fp8e4m3 := fun y =>
  codesK (rowK a2 (y (1 : Fin 4))) (rowK a1 (y (1 : Fin 4))) (xB a0 (y (1 : Fin 4))) (ix4 (y (0 : Fin 4)) 0 (y (2 : Fin 4)) (y (3 : Fin 4)))

/-- The scales that the kernel computes, as a function of the arguments. -/
def K13 (a0 : Vec F S24x768x1152 .bf16) (a1 : Vec F S24x1152 .f32) (a2 : Vec F S24x1152 .f32) (a3 : Vec F S1152x16 .fp8e4m3) (a4 : Vec F S16 .f32) (a5 : Vec F S16 .f32) (a6 : Vec F S12 .f32) (a7 : Vec F S12 .f32) (a8 : Vec F S12 .f32) (a9 : Vec F S12x4x48x64 .f32) : Vec F S24x768 .f32 := fun y =>
  srowC (rowK a2 (rB (y (0 : Fin 2))) (rH (y (0 : Fin 2)))) (rowK a1 (rB (y (0 : Fin 2))) (rH (y (0 : Fin 2))))
    (chunk (xB a0 (rB (y (0 : Fin 2)))) (rH (y (0 : Fin 2))) (kk (y (1 : Fin 2)))) (ix3 0 0 (rr (y (1 : Fin 2))))

variable (m : (ℓ : Loc nD τ sig) → Buf (Elt F) ℓ) (ρ : Dev nD → PrngReg)

/-! ## What the host operations leave -/

/-- The tokens regrouped by half and image. -/
theorem V_main_v0 (c : Dev nD) : V m c main_v0 = (fun y : S2x12x768x1152.Idx =>
    (m ((c.tc : Thread nD τ).loc main_arg0) : Vec F S24x768x1152 .bf16)
      (ix3 (⟨12 * (y (0 : Fin 4)).val + (y (1 : Fin 4)).val, by have h : (y (0 : Fin 4)).val < 2 := (y (0 : Fin 4)).isLt; have h' : (y (1 : Fin 4)).val < 12 := (y (1 : Fin 4)).isLt; omega⟩ : Fin 24) (y (2 : Fin 4)) (y (3 : Fin 4)))) := by
  show StableHlo.after hostOps0 _ (Proc.devRef .tc main_v0) = _
  after_results
  funext y
  refine shapeCast_apply (s := S24x768x1152) (t := S2x12x768x1152) _ _ y _ ?_
  rw [Shape.rowMajor_val_three, Shape.rowMajor_val_four]
  show ((12 * (y (0 : Fin 4)).val + (y (1 : Fin 4)).val) * 768 + (y (2 : Fin 4)).val) * 1152 + (y (3 : Fin 4)).val
    = (((y (0 : Fin 4)).val * 12 + (y (1 : Fin 4)).val) * 768 + (y (2 : Fin 4)).val) * 1152 + (y (3 : Fin 4)).val
  ring

/-- The weights transposed. -/
theorem V_main_v1 (c : Dev nD) : V m c main_v1 = wT (m ((c.tc : Thread nD τ).loc main_arg3)) := by
  show StableHlo.after hostOps0 _ (Proc.devRef .tc main_v1) = _
  after_results
  funext y
  refine transpose_apply (s := S1152x16) (t := S16x1152) _ _ _ y _ ?_
  intro a
  match a with
  | ⟨0, _⟩ => rfl
  | ⟨1, _⟩ => rfl

/-- The weights' scales as a row. -/
theorem V_main_v2 (c : Dev nD) : V m c main_v2 = vB (m ((c.tc : Thread nD τ).loc main_arg4)) := by
  show StableHlo.after hostOps0 _ (Proc.devRef .tc main_v2) = _
  after_results
  funext y
  have hy : (y (0 : Fin 2)).val < 1 := (y (0 : Fin 2)).isLt
  refine shapeCast_apply (s := S16) (t := S1x16) _ _ y _ ?_
  rw [Shape.rowMajor_val_one, Shape.rowMajor_val_two]
  show (y (1 : Fin 2)).val = (y (0 : Fin 2)).val * 16 + (y (1 : Fin 2)).val
  omega

/-- The bias as a row. -/
theorem V_main_v3 (c : Dev nD) : V m c main_v3 = vB (m ((c.tc : Thread nD τ).loc main_arg5)) := by
  show StableHlo.after hostOps0 _ (Proc.devRef .tc main_v3) = _
  after_results
  funext y
  have hy : (y (0 : Fin 2)).val < 1 := (y (0 : Fin 2)).isLt
  refine shapeCast_apply (s := S16) (t := S1x16) _ _ y _ ?_
  rw [Shape.rowMajor_val_one, Shape.rowMajor_val_two]
  show (y (1 : Fin 2)).val = (y (0 : Fin 2)).val * 16 + (y (1 : Fin 2)).val
  omega

/-! ## The input blocks -/

/-- Window 0's block is its whole array at every point. -/
theorem iblk0_eq (c : Dev nD) (t : Fin cfg0.N) : (iblk m c 0 t : S12.Idx → _) = m ((c.tc : Thread nD τ).loc main_arg6) := by
  have e0 := (by decide +kernel : ∀ t : Fin grid0.N, win0_0.index t (0 : Fin 1) = 0) t
  rw [← V_main_arg6 m c]
  funext y
  refine congrArg (V m c main_arg6) (funext fun a => Fin.ext ?_)
  match a with
  | ⟨0, _⟩ => show win0_0.index t (0 : Fin 1) * 12 + 1 * (y 0).val = (y 0).val; omega

/-- Window 1's block is its whole array at every point. -/
theorem iblk1_eq (c : Dev nD) (t : Fin cfg0.N) : (iblk m c 1 t : S12.Idx → _) = m ((c.tc : Thread nD τ).loc main_arg7) := by
  have e0 := (by decide +kernel : ∀ t : Fin grid0.N, win0_1.index t (0 : Fin 1) = 0) t
  rw [← V_main_arg7 m c]
  funext y
  refine congrArg (V m c main_arg7) (funext fun a => Fin.ext ?_)
  match a with
  | ⟨0, _⟩ => show win0_1.index t (0 : Fin 1) * 12 + 1 * (y 0).val = (y 0).val; omega

/-- Window 2's block is its whole array at every point. -/
theorem iblk2_eq (c : Dev nD) (t : Fin cfg0.N) : (iblk m c 2 t : S12.Idx → _) = m ((c.tc : Thread nD τ).loc main_arg8) := by
  have e0 := (by decide +kernel : ∀ t : Fin grid0.N, win0_2.index t (0 : Fin 1) = 0) t
  rw [← V_main_arg8 m c]
  funext y
  refine congrArg (V m c main_arg8) (funext fun a => Fin.ext ?_)
  match a with
  | ⟨0, _⟩ => show win0_2.index t (0 : Fin 1) * 12 + 1 * (y 0).val = (y 0).val; omega

/-- Window 4's block is its whole array at every point. -/
theorem iblk4_eq (c : Dev nD) (t : Fin cfg0.N) : (iblk m c 4 t : S24x1152.Idx → _) = m ((c.tc : Thread nD τ).loc main_arg1) := by
  obtain ⟨e0, e1⟩ := (by decide +kernel : ∀ t : Fin grid0.N, win0_4.index t (0 : Fin 2) = 0 ∧ win0_4.index t (1 : Fin 2) = 0) t
  rw [← V_main_arg1 m c]
  funext y
  refine congrArg (V m c main_arg1) (funext fun a => Fin.ext ?_)
  match a with
  | ⟨0, _⟩ => show win0_4.index t (0 : Fin 2) * 24 + 1 * (y 0).val = (y 0).val; omega
  | ⟨1, _⟩ => show win0_4.index t (1 : Fin 2) * 1152 + 1 * (y 1).val = (y 1).val; omega

/-- Window 5's block is its whole array at every point. -/
theorem iblk5_eq (c : Dev nD) (t : Fin cfg0.N) : (iblk m c 5 t : S24x1152.Idx → _) = m ((c.tc : Thread nD τ).loc main_arg2) := by
  obtain ⟨e0, e1⟩ := (by decide +kernel : ∀ t : Fin grid0.N, win0_5.index t (0 : Fin 2) = 0 ∧ win0_5.index t (1 : Fin 2) = 0) t
  rw [← V_main_arg2 m c]
  funext y
  refine congrArg (V m c main_arg2) (funext fun a => Fin.ext ?_)
  match a with
  | ⟨0, _⟩ => show win0_5.index t (0 : Fin 2) * 24 + 1 * (y 0).val = (y 0).val; omega
  | ⟨1, _⟩ => show win0_5.index t (1 : Fin 2) * 1152 + 1 * (y 1).val = (y 1).val; omega

/-- Window 6's block is its whole array at every point. -/
theorem iblk6_eq (c : Dev nD) (t : Fin cfg0.N) : (iblk m c 6 t : S16x1152.Idx → _) = wT (m ((c.tc : Thread nD τ).loc main_arg3)) := by
  obtain ⟨e0, e1⟩ := (by decide +kernel : ∀ t : Fin grid0.N, win0_6.index t (0 : Fin 2) = 0 ∧ win0_6.index t (1 : Fin 2) = 0) t
  rw [← V_main_v1 m c]
  funext y
  refine congrArg (V m c main_v1) (funext fun a => Fin.ext ?_)
  match a with
  | ⟨0, _⟩ => show win0_6.index t (0 : Fin 2) * 16 + 1 * (y 0).val = (y 0).val; omega
  | ⟨1, _⟩ => show win0_6.index t (1 : Fin 2) * 1152 + 1 * (y 1).val = (y 1).val; omega

/-- Window 7's block is its whole array at every point. -/
theorem iblk7_eq (c : Dev nD) (t : Fin cfg0.N) : (iblk m c 7 t : S1x16.Idx → _) = vB (m ((c.tc : Thread nD τ).loc main_arg4)) := by
  obtain ⟨e0, e1⟩ := (by decide +kernel : ∀ t : Fin grid0.N, win0_7.index t (0 : Fin 2) = 0 ∧ win0_7.index t (1 : Fin 2) = 0) t
  rw [← V_main_v2 m c]
  funext y
  refine congrArg (V m c main_v2) (funext fun a => Fin.ext ?_)
  match a with
  | ⟨0, _⟩ => show win0_7.index t (0 : Fin 2) * 1 + 1 * (y 0).val = (y 0).val; omega
  | ⟨1, _⟩ => show win0_7.index t (1 : Fin 2) * 16 + 1 * (y 1).val = (y 1).val; omega

/-- Window 8's block is its whole array at every point. -/
theorem iblk8_eq (c : Dev nD) (t : Fin cfg0.N) : (iblk m c 8 t : S1x16.Idx → _) = vB (m ((c.tc : Thread nD τ).loc main_arg5)) := by
  obtain ⟨e0, e1⟩ := (by decide +kernel : ∀ t : Fin grid0.N, win0_8.index t (0 : Fin 2) = 0 ∧ win0_8.index t (1 : Fin 2) = 0) t
  rw [← V_main_v3 m c]
  funext y
  refine congrArg (V m c main_v3) (funext fun a => Fin.ext ?_)
  match a with
  | ⟨0, _⟩ => show win0_8.index t (0 : Fin 2) * 1 + 1 * (y 0).val = (y 0).val; omega
  | ⟨1, _⟩ => show win0_8.index t (1 : Fin 2) * 16 + 1 * (y 1).val = (y 1).val; omega

/-- Window 3's block at a point is the point's two token blocks. -/
theorem iblk3_eq (c : Dev nD) (t : Fin cfg0.N) : (iblk m c 3 t : S2x1x768x1152.Idx → _) = xB (m ((c.tc : Thread nD τ).loc main_arg0)) (bI (grid0.coords t)) := by
  obtain ⟨e0, e1, e2, e3⟩ := (by decide +kernel : ∀ t : Fin grid0.N, win0_3.index t (0 : Fin 4) = 0 ∧ win0_3.index t (1 : Fin 4) = t.val ∧ win0_3.index t (2 : Fin 4) = 0 ∧ win0_3.index t (3 : Fin 4) = 0) t
  have hc := coord_pt t
  funext y
  have hy : (y (1 : Fin 4)).val < 1 := (y (1 : Fin 4)).isLt
  refine (congrFun (V_main_v0 m c) _).trans (congrArg (m ((c.tc : Thread nD τ).loc main_arg0)) (funext fun a => Fin.ext ?_))
  match a with
  | ⟨0, _⟩ =>
    show 12 * (win0_3.index t (0 : Fin 4) * 2 + 1 * (y 0).val) + (win0_3.index t (1 : Fin 4) * 1 + 1 * (y 1).val) = 12 * (y 0).val + (grid0.coords t 0).val
    omega
  | ⟨1, _⟩ => show win0_3.index t (2 : Fin 4) * 768 + 1 * (y 2).val = (y 2).val; omega
  | ⟨2, _⟩ => show win0_3.index t (3 : Fin 4) * 1152 + 1 * (y 3).val = (y 3).val; omega

/-- Window 9's block at a point is the point's image. -/
theorem iblk9_eq (c : Dev nD) (t : Fin cfg0.N) : (iblk m c 9 t : S1x4x48x64.Idx → _) = lB (m ((c.tc : Thread nD τ).loc main_arg9)) (bI (grid0.coords t)) := by
  obtain ⟨e0, e1, e2, e3⟩ := (by decide +kernel : ∀ t : Fin grid0.N, win0_9.index t (0 : Fin 4) = t.val ∧ win0_9.index t (1 : Fin 4) = 0 ∧ win0_9.index t (2 : Fin 4) = 0 ∧ win0_9.index t (3 : Fin 4) = 0) t
  have hc := coord_pt t
  unfold lB
  rw [← V_main_arg9 m c]
  funext y
  have hy : (y (0 : Fin 4)).val < 1 := (y (0 : Fin 4)).isLt
  refine congrArg (V m c main_arg9) (funext fun a => Fin.ext ?_)
  match a with
  | ⟨0, _⟩ => show win0_9.index t (0 : Fin 4) * 1 + 1 * (y 0).val = (grid0.coords t 0).val; omega
  | ⟨1, _⟩ => show win0_9.index t (1 : Fin 4) * 4 + 1 * (y 1).val = (y 1).val; omega
  | ⟨2, _⟩ => show win0_9.index t (2 : Fin 4) * 48 + 1 * (y 2).val = (y 2).val; omega
  | ⟨3, _⟩ => show win0_9.index t (3 : Fin 4) * 64 + 1 * (y 3).val = (y 3).val; omega

/-! ## The output arrays -/

/-- An index of output window 10's block at a point, in the array. -/
theorem emb10_eq (t : Fin cfg0.N) (y : S1x4x48x64.Idx) : ((cfg0.win 10).blk t).view.emb y = (ix4 (bI (grid0.coords t)) (y (1 : Fin 4)) (y (2 : Fin 4)) (y (3 : Fin 4)) : S12x4x48x64.Idx) := by
  obtain ⟨e0, e1, e2, e3⟩ := (by decide +kernel : ∀ t : Fin grid0.N, win0_10.index t (0 : Fin 4) = t.val ∧ win0_10.index t (1 : Fin 4) = 0 ∧ win0_10.index t (2 : Fin 4) = 0 ∧ win0_10.index t (3 : Fin 4) = 0) t
  have hc := coord_pt t
  have hy : (y (0 : Fin 4)).val < 1 := (y (0 : Fin 4)).isLt
  funext a
  apply Fin.ext
  match a with
  | ⟨0, _⟩ => show win0_10.index t (0 : Fin 4) * 1 + 1 * (y 0).val = (grid0.coords t 0).val; omega
  | ⟨1, _⟩ => show win0_10.index t (1 : Fin 4) * 4 + 1 * (y 1).val = (y 1).val; omega
  | ⟨2, _⟩ => show win0_10.index t (2 : Fin 4) * 48 + 1 * (y 2).val = (y 2).val; omega
  | ⟨3, _⟩ => show win0_10.index t (3 : Fin 4) * 64 + 1 * (y 3).val = (y 3).val; omega

/-- The new latent that a point writes back: its block of the whole array's. -/
theorem flushed10_eq (c : Dev nD) (t : Fin cfg0.N) :
    (dats m 0 c).flushed 10 t = ((cfg0.win 10).blk t).view.read (Elt F) (K10 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))) := by
  funext (y : S1x4x48x64.Idx)
  show (dats m 0 c).after 10 t y = _
  rw [after0_10, iblk0_eq, iblk1_eq, iblk2_eq, iblk3_eq, iblk4_eq, iblk5_eq, iblk6_eq, iblk7_eq, iblk8_eq, iblk9_eq]
  show _ = K10 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (((cfg0.win 10).blk t).view.emb y)
  rw [emb10_eq]
  have hy : (y (0 : Fin 4)).val < 1 := (y (0 : Fin 4)).isLt
  have e : y = ix4 0 (y (1 : Fin 4)) (y (2 : Fin 4)) (y (3 : Fin 4)) := by
    funext a
    match a with
    | ⟨0, _⟩ => exact Fin.ext (by show (y (0 : Fin 4)).val = 0; omega)
    | ⟨1, _⟩ => rfl
    | ⟨2, _⟩ => rfl
    | ⟨3, _⟩ => rfl
  rw [e]
  rfl

/-- Every index of the array is written back at some point. -/
theorem covered10 (i : S12x4x48x64.Idx) :
    ∃ t : Fin cfg0.N, (cfg0.win 10).flush t = true ∧ i ∈ ((cfg0.win 10).blk t).view.set := by
  refine ⟨pt (i (0 : Fin 4)), flush0_10 _, ?_⟩
  have e : ((cfg0.win 10).blk (pt (i (0 : Fin 4)))).view.emb (ix4 0 (i (1 : Fin 4)) (i (2 : Fin 4)) (i (3 : Fin 4)) : S1x4x48x64.Idx) = i := by
    rw [emb10_eq]
    funext a
    match a with
    | ⟨0, _⟩ => exact Fin.ext (coord_pt _)
    | ⟨1, _⟩ => rfl
    | ⟨2, _⟩ => rfl
    | ⟨3, _⟩ => rfl
  have h := ((cfg0.win 10).blk (pt (i (0 : Fin 4)))).view.emb_mem_set (ix4 0 (i (1 : Fin 4)) (i (2 : Fin 4)) (i (3 : Fin 4)) : S1x4x48x64.Idx)
  rw [e] at h
  exact h

/-- The new latent after the run. -/
theorem final10 (c : Dev nD) : (dats m 0 c).arrAt 10 cfg0.N = K10 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) :=
  (dats m 0 c).arrAt_eq_of_cover 10 _ (fun t _ => flushed10_eq m c t) covered10

/-- An index of output window 11's block at a point, in the array. -/
theorem emb11_eq (t : Fin cfg0.N) (y : S1x4x48x64.Idx) : ((cfg0.win 11).blk t).view.emb y = (ix4 (bI (grid0.coords t)) (y (1 : Fin 4)) (y (2 : Fin 4)) (y (3 : Fin 4)) : S12x4x48x64.Idx) := by
  obtain ⟨e0, e1, e2, e3⟩ := (by decide +kernel : ∀ t : Fin grid0.N, win0_11.index t (0 : Fin 4) = t.val ∧ win0_11.index t (1 : Fin 4) = 0 ∧ win0_11.index t (2 : Fin 4) = 0 ∧ win0_11.index t (3 : Fin 4) = 0) t
  have hc := coord_pt t
  have hy : (y (0 : Fin 4)).val < 1 := (y (0 : Fin 4)).isLt
  funext a
  apply Fin.ext
  match a with
  | ⟨0, _⟩ => show win0_11.index t (0 : Fin 4) * 1 + 1 * (y 0).val = (grid0.coords t 0).val; omega
  | ⟨1, _⟩ => show win0_11.index t (1 : Fin 4) * 4 + 1 * (y 1).val = (y 1).val; omega
  | ⟨2, _⟩ => show win0_11.index t (2 : Fin 4) * 48 + 1 * (y 2).val = (y 2).val; omega
  | ⟨3, _⟩ => show win0_11.index t (3 : Fin 4) * 64 + 1 * (y 3).val = (y 3).val; omega

/-- The velocity that a point writes back: its block of the whole array's. -/
theorem flushed11_eq (c : Dev nD) (t : Fin cfg0.N) :
    (dats m 0 c).flushed 11 t = ((cfg0.win 11).blk t).view.read (Elt F) (K11 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))) := by
  funext (y : S1x4x48x64.Idx)
  show (dats m 0 c).after 11 t y = _
  rw [after0_11, iblk0_eq, iblk3_eq, iblk4_eq, iblk5_eq, iblk6_eq, iblk7_eq, iblk8_eq]
  show _ = K11 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (((cfg0.win 11).blk t).view.emb y)
  rw [emb11_eq]
  have hy : (y (0 : Fin 4)).val < 1 := (y (0 : Fin 4)).isLt
  have e : y = ix4 0 (y (1 : Fin 4)) (y (2 : Fin 4)) (y (3 : Fin 4)) := by
    funext a
    match a with
    | ⟨0, _⟩ => exact Fin.ext (by show (y (0 : Fin 4)).val = 0; omega)
    | ⟨1, _⟩ => rfl
    | ⟨2, _⟩ => rfl
    | ⟨3, _⟩ => rfl
  rw [e]
  rfl

/-- Every index of the array is written back at some point. -/
theorem covered11 (i : S12x4x48x64.Idx) :
    ∃ t : Fin cfg0.N, (cfg0.win 11).flush t = true ∧ i ∈ ((cfg0.win 11).blk t).view.set := by
  refine ⟨pt (i (0 : Fin 4)), flush0_11 _, ?_⟩
  have e : ((cfg0.win 11).blk (pt (i (0 : Fin 4)))).view.emb (ix4 0 (i (1 : Fin 4)) (i (2 : Fin 4)) (i (3 : Fin 4)) : S1x4x48x64.Idx) = i := by
    rw [emb11_eq]
    funext a
    match a with
    | ⟨0, _⟩ => exact Fin.ext (coord_pt _)
    | ⟨1, _⟩ => rfl
    | ⟨2, _⟩ => rfl
    | ⟨3, _⟩ => rfl
  have h := ((cfg0.win 11).blk (pt (i (0 : Fin 4)))).view.emb_mem_set (ix4 0 (i (1 : Fin 4)) (i (2 : Fin 4)) (i (3 : Fin 4)) : S1x4x48x64.Idx)
  rw [e] at h
  exact h

/-- The velocity after the run. -/
theorem final11 (c : Dev nD) : (dats m 0 c).arrAt 11 cfg0.N = K11 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) :=
  (dats m 0 c).arrAt_eq_of_cover 11 _ (fun t _ => flushed11_eq m c t) covered11

/-- An index of output window 12's block at a point, in the array. -/
theorem emb12_eq (t : Fin cfg0.N) (y : S2x1x768x1152.Idx) : ((cfg0.win 12).blk t).view.emb y = (ix4 (y (0 : Fin 4)) (bI (grid0.coords t)) (y (2 : Fin 4)) (y (3 : Fin 4)) : S2x12x768x1152.Idx) := by
  obtain ⟨e0, e1, e2, e3⟩ := (by decide +kernel : ∀ t : Fin grid0.N, win0_12.index t (0 : Fin 4) = 0 ∧ win0_12.index t (1 : Fin 4) = t.val ∧ win0_12.index t (2 : Fin 4) = 0 ∧ win0_12.index t (3 : Fin 4) = 0) t
  have hc := coord_pt t
  have hy : (y (1 : Fin 4)).val < 1 := (y (1 : Fin 4)).isLt
  funext a
  apply Fin.ext
  match a with
  | ⟨0, _⟩ => show win0_12.index t (0 : Fin 4) * 2 + 1 * (y 0).val = (y 0).val; omega
  | ⟨1, _⟩ => show win0_12.index t (1 : Fin 4) * 1 + 1 * (y 1).val = (grid0.coords t 0).val; omega
  | ⟨2, _⟩ => show win0_12.index t (2 : Fin 4) * 768 + 1 * (y 2).val = (y 2).val; omega
  | ⟨3, _⟩ => show win0_12.index t (3 : Fin 4) * 1152 + 1 * (y 3).val = (y 3).val; omega

/-- The codes that a point writes back: its block of the whole array's. -/
theorem flushed12_eq (c : Dev nD) (t : Fin cfg0.N) :
    (dats m 0 c).flushed 12 t = ((cfg0.win 12).blk t).view.read (Elt F) (K12 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))) := by
  funext (y : S2x1x768x1152.Idx)
  show (dats m 0 c).after 12 t y = _
  rw [after0_12, iblk3_eq, iblk4_eq, iblk5_eq]
  show _ = K12 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (((cfg0.win 12).blk t).view.emb y)
  rw [emb12_eq]
  have hy : (y (1 : Fin 4)).val < 1 := (y (1 : Fin 4)).isLt
  have e : y = ix4 (y (0 : Fin 4)) 0 (y (2 : Fin 4)) (y (3 : Fin 4)) := by
    funext a
    match a with
    | ⟨0, _⟩ => rfl
    | ⟨1, _⟩ => exact Fin.ext (by show (y (1 : Fin 4)).val = 0; omega)
    | ⟨2, _⟩ => rfl
    | ⟨3, _⟩ => rfl
  rw [e]
  rfl

/-- Every index of the array is written back at some point. -/
theorem covered12 (i : S2x12x768x1152.Idx) :
    ∃ t : Fin cfg0.N, (cfg0.win 12).flush t = true ∧ i ∈ ((cfg0.win 12).blk t).view.set := by
  refine ⟨pt (i (1 : Fin 4)), flush0_12 _, ?_⟩
  have e : ((cfg0.win 12).blk (pt (i (1 : Fin 4)))).view.emb (ix4 (i (0 : Fin 4)) 0 (i (2 : Fin 4)) (i (3 : Fin 4)) : S2x1x768x1152.Idx) = i := by
    rw [emb12_eq]
    funext a
    match a with
    | ⟨0, _⟩ => rfl
    | ⟨1, _⟩ => exact Fin.ext (coord_pt _)
    | ⟨2, _⟩ => rfl
    | ⟨3, _⟩ => rfl
  have h := ((cfg0.win 12).blk (pt (i (1 : Fin 4)))).view.emb_mem_set (ix4 (i (0 : Fin 4)) 0 (i (2 : Fin 4)) (i (3 : Fin 4)) : S2x1x768x1152.Idx)
  rw [e] at h
  exact h

/-- The codes after the run. -/
theorem final12 (c : Dev nD) : (dats m 0 c).arrAt 12 cfg0.N = K12 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) :=
  (dats m 0 c).arrAt_eq_of_cover 12 _ (fun t _ => flushed12_eq m c t) covered12

/-- An index of output window 13's block at a point, in the array. -/
theorem emb13_eq (t : Fin cfg0.N) (y : S24x768.Idx) : ((cfg0.win 13).blk t).view.emb y = (ix2 (y (0 : Fin 2)) (y (1 : Fin 2)) : S24x768.Idx) := by
  obtain ⟨e0, e1⟩ := (by decide +kernel : ∀ t : Fin grid0.N, win0_13.index t (0 : Fin 2) = 0 ∧ win0_13.index t (1 : Fin 2) = 0) t
  funext a
  apply Fin.ext
  match a with
  | ⟨0, _⟩ => show win0_13.index t (0 : Fin 2) * 24 + 1 * (y 0).val = (y 0).val; omega
  | ⟨1, _⟩ => show win0_13.index t (1 : Fin 2) * 768 + 1 * (y 1).val = (y 1).val; omega

/-- The scales that a point writes back: its block of the whole array's. -/
theorem flushed13_eq (c : Dev nD) (t : Fin cfg0.N) :
    (dats m 0 c).flushed 13 t = ((cfg0.win 13).blk t).view.read (Elt F) (K13 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))) := by
  funext (y : S24x768.Idx)
  show (dats m 0 c).after 13 t y = _
  rw [after0_13]
  show _ = K13 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (((cfg0.win 13).blk t).view.emb y)
  rw [emb13_eq]
  unfold xsK sFull sRow K13
  rw [iblk3_eq, iblk4_eq, iblk5_eq]
  show _ = srowC (rowK _ (rB (y (0 : Fin 2))) (rH (y (0 : Fin 2)))) (rowK _ (rB (y (0 : Fin 2))) (rH (y (0 : Fin 2))))
    (chunk (xB _ (rB (y (0 : Fin 2)))) (rH (y (0 : Fin 2))) (kk (y (1 : Fin 2)))) (ix3 0 0 (rr (y (1 : Fin 2))))
  rw [← show bI (grid0.coords (pt (rB (y (0 : Fin 2))))) = rB (y (0 : Fin 2)) from Fin.ext (coord_pt _)]
  rfl

/-- Every index of the array is written back at some point. -/
theorem covered13 (i : S24x768.Idx) :
    ∃ t : Fin cfg0.N, (cfg0.win 13).flush t = true ∧ i ∈ ((cfg0.win 13).blk t).view.set := by
  refine ⟨pt 11, (flush0_13 _).mpr (by rfl), ?_⟩
  have e : ((cfg0.win 13).blk (pt 11)).view.emb (ix2 (i (0 : Fin 2)) (i (1 : Fin 2)) : S24x768.Idx) = i := by
    rw [emb13_eq]
    funext a
    match a with
    | ⟨0, _⟩ => rfl
    | ⟨1, _⟩ => rfl
  have h := ((cfg0.win 13).blk (pt 11)).view.emb_mem_set (ix2 (i (0 : Fin 2)) (i (1 : Fin 2)) : S24x768.Idx)
  rw [e] at h
  exact h

/-- The scales after the run. -/
theorem final13 (c : Dev nD) : (dats m 0 c).arrAt 13 cfg0.N = K13 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) :=
  (dats m 0 c).arrAt_eq_of_cover 13 _ (fun t _ => flushed13_eq m c t) covered13

/-! ## The run -/

/-- THE FRAME AND THE VALUES: every weakly fair execution of @main terminates; the four result arrays end at their functions of
    the arguments, the argument arrays end unchanged and every semaphore counter ends at zero. -/
theorem run :
    θ_run defs (onTc (τ := τ) (main (F := F))) ⟨m, fun _ => 0, ρ⟩ (fun r => (∀ c : Dev nD,
      r.2.mem ((c.tc : Thread nD τ).loc main_v4_0) = K10 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_v4_1) = K11 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_v4_2) = K12 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_v4_3) = K13 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  (θ_run defs _ _).mono (fun _ h => ⟨fun c => ⟨((h.1 c).1 10).trans (final10 m c), ((h.1 c).1 11).trans (final11 m c), ((h.1 c).1 12).trans (final12 m c), ((h.1 c).1 13).trans (final13 m c),
    ((h.1 c).2 main_arg0 (Pipeline.mem_restRefs_of main_arg0 (by decide) (by decide))).trans (V_main_arg0 m c),
    ((h.1 c).1 4).trans (((dats m 0 c).arrAt_in 4 rfl _).trans ((A_eq m c 4).trans (V_main_arg1 m c))),
    ((h.1 c).1 5).trans (((dats m 0 c).arrAt_in 5 rfl _).trans ((A_eq m c 5).trans (V_main_arg2 m c))),
    ((h.1 c).2 main_arg3 (Pipeline.mem_restRefs_of main_arg3 (by decide) (by decide))).trans (V_main_arg3 m c),
    ((h.1 c).2 main_arg4 (Pipeline.mem_restRefs_of main_arg4 (by decide) (by decide))).trans (V_main_arg4 m c),
    ((h.1 c).2 main_arg5 (Pipeline.mem_restRefs_of main_arg5 (by decide) (by decide))).trans (V_main_arg5 m c),
    ((h.1 c).1 0).trans (((dats m 0 c).arrAt_in 0 rfl _).trans ((A_eq m c 0).trans (V_main_arg6 m c))),
    ((h.1 c).1 1).trans (((dats m 0 c).arrAt_in 1 rfl _).trans ((A_eq m c 1).trans (V_main_arg7 m c))),
    ((h.1 c).1 2).trans (((dats m 0 c).arrAt_in 2 rfl _).trans ((A_eq m c 2).trans (V_main_arg8 m c))),
    ((h.1 c).1 9).trans (((dats m 0 c).arrAt_in 9 rfl _).trans ((A_eq m c 9).trans (V_main_arg9 m c)))⟩, h.2⟩) (run_main m ρ)

end Cert.KernelIdeal.Hand

end
-- ==== Proof.Scale.lean ====
/- The power-of-two scale of a row: the kernel's bit-by-bit search for the exponent field and the reference's count of
   powers of two name the same exponent, so the scales and the inverse scales made from them are equal. Pure facts about
   words and extended reals; no program is mentioned. -/
module
public import Idealize.ShloMosaic.Lib.Pointwise

@[expose] public section
noncomputable section
namespace Cert.Scale
open Idealize.ShloMosaic

/-- The float whose exponent field is `m` and whose other bits are zero. -/
def P (m : ℕ) : EReal := Ideal.ofBits .f32 (IntOp.shli .vector (BitVec.ofNat 32 m) 23#32)

/-- The three fields of the word `m <<< 23`. -/
theorem fields : ∀ m : Fin 256,
    ((IntOp.shli .vector (BitVec.ofNat 32 m.1) 23#32).extractLsb' 31 1 == 1#1) = false
    ∧ ((IntOp.shli .vector (BitVec.ofNat 32 m.1) 23#32).extractLsb' 23 8).toNat = m.1
    ∧ ((IntOp.shli .vector (BitVec.ofNat 32 m.1) 23#32).extractLsb' 0 23).toNat = 0 := by decide +kernel

theorem P_unfold (m : ℕ) (h : m < 256) : P m =
    if m = 255 then ⊤ else if m = 0 then 0 else (((2 : ℝ) ^ ((m : ℤ) - 127) : ℝ) : EReal) := by
  obtain ⟨h1, h2, h3⟩ := fields ⟨m, h⟩
  have e : P m = Ideal.ieee 8 23 (IntOp.shli .vector (BitVec.ofNat 32 m) 23#32) := rfl
  rw [e]; unfold Ideal.ieee
  simp only [show (8 + 23 : ℕ) = 31 from rfl, h1, h2, h3]
  norm_num
  refine ite_congr rfl (fun _ => rfl) fun _ => ite_congr rfl (fun _ => rfl) fun _ => ?_
  have : ((2:ℝ) ^ ((m:ℤ) - 127)) = 8388608 * (2:ℝ) ^ ((m:ℤ) - 127 - 23) := by
    rw [zpow_sub₀ (by norm_num : (2:ℝ) ≠ 0) ((m:ℤ) - 127) 23]
    norm_num
    ring
  rw [this, EReal.coe_mul]

theorem P_mid (m : ℕ) (h1 : 1 ≤ m) (h2 : m ≤ 254) : P m = (((2 : ℝ) ^ ((m : ℤ) - 127) : ℝ) : EReal) := by
  rw [P_unfold m (by omega), if_neg (by omega), if_neg (by omega)]

theorem P_mono {m n : ℕ} (h1 : 1 ≤ m) (h : m ≤ n) (hn : n < 256) : P m ≤ P n := by
  by_cases h5 : n = 255
  · rw [P_unfold n hn, if_pos h5]; exact le_top
  · rw [P_mid m h1 (by omega), P_mid n (by omega) (by omega)]
    exact EReal.coe_le_coe_iff.mpr (zpow_le_zpow_right₀ (by norm_num : (1:ℝ) ≤ 2) (by omega))

/-- One step of the search: keep `n`, or add the bit `k` when the power with that field is not above `q`. -/
def stepW (q : EReal) (n k : BitVec 32) : BitVec 32 :=
  if q < Ideal.ofBits .f32 (IntOp.shli .vector (IntOp.addi n k) 23#32) then n else IntOp.addi n k

/-- The whole search, from the highest bit down. -/
def search (q : EReal) : BitVec 32 :=
  stepW q (stepW q (stepW q (stepW q (stepW q (stepW q (stepW q (stepW q 0#32 128#32) 64#32) 32#32) 16#32) 8#32) 4#32) 2#32) 1#32

/-- What is known between steps: every field up to `n` is a power not above `q`, none from `n + w` on is. -/
def Inv (q : EReal) (n w : ℕ) : Prop :=
  n + w ≤ 256 ∧ (∀ m, 1 ≤ m → m ≤ n → P m ≤ q) ∧ (∀ m, n + w ≤ m → m < 256 → q < P m)

theorem step_inv (q : EReal) (n k : ℕ) (hk : 1 ≤ k) (h : Inv q n (k + k)) :
    ∃ n', stepW q (BitVec.ofNat 32 n) (BitVec.ofNat 32 k) = BitVec.ofNat 32 n' ∧ Inv q n' k := by
  obtain ⟨h0, h1, h2⟩ := h
  have ha : IntOp.addi (BitVec.ofNat 32 n) (BitVec.ofNat 32 k) = BitVec.ofNat 32 (n + k) := by
    show BitVec.ofNat 32 n + BitVec.ofNat 32 k = _
    rw [BitVec.ofNat_add]
  have hs : stepW q (BitVec.ofNat 32 n) (BitVec.ofNat 32 k) = if q < P (n + k) then BitVec.ofNat 32 n else BitVec.ofNat 32 (n + k) := by
    unfold stepW; rw [ha]; rfl
  rw [hs]
  by_cases hq : q < P (n + k)
  · rw [if_pos hq]
    exact ⟨n, rfl, by omega, h1, fun m h3 h4 => lt_of_lt_of_le hq (P_mono (by omega) h3 h4)⟩
  · rw [if_neg hq]
    exact ⟨n + k, rfl, by omega, fun m h3 h4 => (P_mono h3 h4 (by omega)).trans (not_lt.mp hq),
      fun m h3 h4 => h2 m (by omega) h4⟩

/-- The search ends at the number `N` of the highest field whose power is not above `q`. -/
theorem search_spec (q : EReal) :
    ∃ N, N < 256 ∧ search q = BitVec.ofNat 32 N ∧ ∀ m, 1 ≤ m → m < 256 → (P m ≤ q ↔ m ≤ N) := by
  have i0 : Inv q 0 (128 + 128) := ⟨by omega, fun m h1 h2 => by omega, fun m h1 h2 => by omega⟩
  obtain ⟨n1, e1, i1⟩ := step_inv q 0 128 (by omega) i0
  obtain ⟨n2, e2, i2⟩ := step_inv q n1 64 (by omega) i1
  obtain ⟨n3, e3, i3⟩ := step_inv q n2 32 (by omega) i2
  obtain ⟨n4, e4, i4⟩ := step_inv q n3 16 (by omega) i3
  obtain ⟨n5, e5, i5⟩ := step_inv q n4 8 (by omega) i4
  obtain ⟨n6, e6, i6⟩ := step_inv q n5 4 (by omega) i5
  obtain ⟨n7, e7, i7⟩ := step_inv q n6 2 (by omega) i6
  obtain ⟨n8, e8, i8⟩ := step_inv q n7 1 (by omega) i7
  obtain ⟨j0, j1, j2⟩ := i8
  refine ⟨n8, by omega, ?_, fun m h1 h2 => ⟨fun h => ?_, fun h => j1 m h1 h⟩⟩
  · unfold search
    rw [show (0#32 : BitVec 32) = BitVec.ofNat 32 0 from rfl, e1, e2, e3, e4, e5, e6, e7, e8]
  · by_contra hc
    exact absurd h (not_le.mpr (j2 m (by omega) h2))

/-- The kernel's exponent word of a row whose largest magnitude is `a`. -/
def kE (c a : EReal) : BitVec 32 := if a = 0 then 0#32 else IntOp.subi (search (a * c)) 126#32

/-- The kernel's scale. -/
def kScale (c a : EReal) : EReal :=
  Ideal.ofBits .f32 (IntOp.shli .vector (IntOp.addi (IntOp.minsi 127#32 (IntOp.maxsi 4294967170#32 (kE c a))) 127#32) 23#32)

/-- The kernel's inverse scale. -/
def kInv (c a : EReal) : EReal :=
  Ideal.ofBits .f32 (IntOp.shli .vector (IntOp.addi (IntOp.minsi 127#32 (IntOp.maxsi 4294967170#32 (IntOp.subi 0#32 (kE c a)))) 127#32) 23#32)

/-- The reference's test: the power `2^(l-126)` is not above `q`. -/
def mask (q : EReal) (l : Fin 254) : BitVec 1 :=
  Ideal.cmp .oge q (Ideal.exp2 (FloatOps.sitofp (F := Ideal) .f32 (BitVec.ofNat 32 l.1) - Ideal.ofBits .f32 1123811328#32))

/-- The reference's exponent. -/
def rE (c a : EReal) : EReal :=
  if a = 0 then 0 else (∑ x, Scalar.select (mask (a * c) x) 1 0) - Ideal.ofBits .f32 1123811328#32

/-- The reference's scale. -/
def rScale (c a : EReal) : EReal := Ideal.exp2 (min (rE c a) (Ideal.ofBits .f32 0x42FE0000#32))

/-- The reference's inverse scale. -/
def rInv (c a : EReal) : EReal := Ideal.exp2 (max (0 - rE c a) (Ideal.ofBits .f32 0xC2FC0000#32))

theorem c126 : Ideal.ofBits .f32 1123811328#32 = ((126 : ℝ) : EReal) := by
  rw [show Ideal.ofBits .f32 1123811328#32 = Ideal.ieee 8 23 1123811328#32 from rfl]
  unfold Ideal.ieee
  rw [show ((1123811328#32 : BitVec 32).extractLsb' (8 + 23) 1 == 1#1) = false by decide +kernel,
    show ((1123811328#32 : BitVec 32).extractLsb' 23 8).toNat = 133 by decide +kernel,
    show ((1123811328#32 : BitVec 32).extractLsb' 0 23).toNat = 8126464 by decide +kernel]
  norm_num
theorem c127 : Ideal.ofBits .f32 0x42FE0000#32 = ((127 : ℝ) : EReal) := by
  rw [show Ideal.ofBits .f32 0x42FE0000#32 = Ideal.ieee 8 23 0x42FE0000#32 from rfl]
  unfold Ideal.ieee
  rw [show ((0x42FE0000#32 : BitVec 32).extractLsb' (8 + 23) 1 == 1#1) = false by decide +kernel,
    show ((0x42FE0000#32 : BitVec 32).extractLsb' 23 8).toNat = 133 by decide +kernel,
    show ((0x42FE0000#32 : BitVec 32).extractLsb' 0 23).toNat = 8257536 by decide +kernel]
  norm_num
theorem cm126 : Ideal.ofBits .f32 0xC2FC0000#32 = ((-126 : ℝ) : EReal) := by
  rw [show Ideal.ofBits .f32 0xC2FC0000#32 = Ideal.ieee 8 23 0xC2FC0000#32 from rfl]
  unfold Ideal.ieee
  rw [show ((0xC2FC0000#32 : BitVec 32).extractLsb' (8 + 23) 1 == 1#1) = true by decide +kernel,
    show ((0xC2FC0000#32 : BitVec 32).extractLsb' 23 8).toNat = 133 by decide +kernel,
    show ((0xC2FC0000#32 : BitVec 32).extractLsb' 0 23).toNat = 8126464 by decide +kernel]
  norm_num

theorem exp2_int (r : ℝ) (z : ℤ) (h : r = (z : ℝ)) : Ideal.exp2 (r : EReal) = (((2 : ℝ) ^ z : ℝ) : EReal) := by
  rw [Ideal.exp2_coe, h]
  exact congrArg _ (Real.rpow_intCast 2 z)

theorem toInt_small : ∀ l : Fin 254, (BitVec.ofNat 32 l.1).toInt = (l.1 : ℤ) := by decide +kernel

theorem cmp_oge (x y : EReal) : Ideal.cmp .oge x y = if y ≤ x then 1#1 else 0#1 := by
  unfold Ideal.cmp
  by_cases h : y ≤ x <;> simp [h]

/-- The reference's `l`-th power of two is the float with exponent field `l + 1`. -/
theorem mask_eq (q : EReal) (l : Fin 254) : mask q l = if P (l.1 + 1) ≤ q then 1#1 else 0#1 := by
  unfold mask
  rw [cmp_oge, show FloatOps.sitofp (F := Ideal) .f32 (BitVec.ofNat 32 l.1) = ((((BitVec.ofNat 32 l.1).toInt : ℝ)) : EReal) from rfl,
    toInt_small, c126, ← EReal.coe_sub, exp2_int _ ((l.1 : ℤ) - 126) (by push_cast; ring), P_mid _ (by omega) (by omega),
    show ((l.1 + 1 : ℕ) : ℤ) - 127 = (l.1 : ℤ) - 126 by omega]

theorem card_le : ∀ N : Fin 256, (Finset.univ.filter fun x : Fin 254 => x.1 + 1 ≤ N.1).card = min N.1 254 := by
  decide +kernel

/-- The reference's count. -/
theorem count_eq (q : EReal) (N : ℕ) (hN : N < 256) (h : ∀ m, 1 ≤ m → m < 256 → (P m ≤ q ↔ m ≤ N)) :
    (∑ x, Scalar.select (mask q x) (1 : EReal) 0) = (((min N 254 : ℕ) : ℝ) : EReal) := by
  have e : ∀ x : Fin 254, Scalar.select (mask q x) (1 : EReal) 0 = if x.1 + 1 ≤ N then 1 else 0 := by
    intro x
    rw [mask_eq]
    unfold Scalar.select
    by_cases hx : x.1 + 1 ≤ N
    · rw [if_pos hx, if_pos ((h _ (by omega) (by omega)).mpr hx)]; rfl
    · rw [if_neg hx, if_neg (fun hh => hx ((h _ (by omega) (by omega)).mp hh))]; rfl
  rw [Finset.sum_congr rfl (fun x _ => e x), Finset.sum_ite, Finset.sum_const, Finset.sum_const_zero, add_zero, nsmul_one,
    card_le ⟨N, hN⟩]
  norm_cast

theorem word_scale : ∀ N : Fin 256, IntOp.addi (IntOp.minsi 127#32 (IntOp.maxsi 4294967170#32 (IntOp.subi (BitVec.ofNat 32 N.1) 126#32))) 127#32
    = BitVec.ofNat 32 (min (N.1 + 1) 254) := by decide +kernel
theorem word_inv : ∀ N : Fin 256, IntOp.addi (IntOp.minsi 127#32 (IntOp.maxsi 4294967170#32 (IntOp.subi 0#32 (IntOp.subi (BitVec.ofNat 32 N.1) 126#32)))) 127#32
    = BitVec.ofNat 32 (max (253 - N.1) 1) := by decide +kernel

/-- The two scales are equal. -/
theorem kScale_eq (c a : EReal) : kScale c a = rScale c a := by
  by_cases ha : a = 0
  · unfold kScale rScale kE rE
    rw [if_pos ha, if_pos ha, c127, show IntOp.addi (IntOp.minsi 127#32 (IntOp.maxsi 4294967170#32 0#32)) 127#32 = BitVec.ofNat 32 127 by decide +kernel,
      show min (0 : EReal) ((127 : ℝ) : EReal) = ((0 : ℝ) : EReal) from min_eq_left (by exact_mod_cast (by norm_num : (0:ℝ) ≤ 127)),
      exp2_int 0 0 (by norm_num)]
    exact P_mid 127 (by omega) (by omega)
  · obtain ⟨N, hN, hs, h⟩ := search_spec (a * c)
    unfold kScale rScale kE rE
    rw [if_neg ha, if_neg ha, hs, word_scale ⟨N, hN⟩, count_eq _ N hN h, c126, c127, ← EReal.coe_sub,
      ← EReal.coe_strictMono.monotone.map_min, exp2_int _ ((min N 253 : ℕ) - 126 : ℤ)]
    · refine (P_mid _ (by omega) (by omega)).trans ?_
      congr 2
      push_cast; omega
    · have : (min ((((min N 254 : ℕ) : ℤ)) - 126) 127 : ℤ) = (min N 253 : ℕ) - 126 := by omega
      exact_mod_cast congrArg (Int.cast : ℤ → ℝ) this

/-- The two inverse scales are equal. -/
theorem kInv_eq (c a : EReal) : kInv c a = rInv c a := by
  by_cases ha : a = 0
  · unfold kInv rInv kE rE
    rw [if_pos ha, if_pos ha, cm126, show IntOp.addi (IntOp.minsi 127#32 (IntOp.maxsi 4294967170#32 (IntOp.subi 0#32 0#32))) 127#32 = BitVec.ofNat 32 127 by decide +kernel,
      sub_zero, show max (0 : EReal) ((-126 : ℝ) : EReal) = ((0 : ℝ) : EReal) from max_eq_left (by exact_mod_cast (by norm_num : (-126:ℝ) ≤ 0)),
      exp2_int 0 0 (by norm_num)]
    exact P_mid 127 (by omega) (by omega)
  · obtain ⟨N, hN, hs, h⟩ := search_spec (a * c)
    unfold kInv rInv kE rE
    rw [if_neg ha, if_neg ha, hs, word_inv ⟨N, hN⟩, count_eq _ N hN h, c126, cm126, ← EReal.coe_sub, ← EReal.coe_zero, ← EReal.coe_sub,
      ← EReal.coe_strictMono.monotone.map_max, exp2_int _ ((max (253 - N) 1 : ℕ) - 127 : ℤ)]
    · exact P_mid _ (by omega) (by omega)
    · have : (max (0 - ((((min N 254 : ℕ) : ℤ)) - 126)) (-126) : ℤ) = (max (253 - N) 1 : ℕ) - 127 := by omega
      exact_mod_cast congrArg (Int.cast : ℤ → ℝ) this

end Cert.Scale

end
-- ==== Proof.Math.lean ====
/- The mathematics of the certified function, row by row, as functions of extended reals: the modulated layer norm of a
   row, its largest magnitude, its clipped codes, its product with one weight column, and the guided and rescaled
   prediction of one image. Both programs are read as these functions. -/
module
public import proofs.«01_k».proof.Proof.Scale

@[expose] public section
noncomputable section
namespace Cert.Math
open Idealize.ShloMosaic

/-- The layer norm of the row `x`, scaled by `1 + s` and shifted by `b`. -/
def hRow (x s b : Fin 1152 → EReal) (l : Fin 1152) : EReal :=
  (x l - Ideal.div (∑ k, x k) (Ideal.ofBits FTy.f32 1150287872#32)) *
      Ideal.rsqrt
        (Ideal.div
            (∑ j,
              (x j - Ideal.div (∑ k, x k) (Ideal.ofBits FTy.f32 1150287872#32)) *
                (x j - Ideal.div (∑ k, x k) (Ideal.ofBits FTy.f32 1150287872#32)))
            (Ideal.ofBits FTy.f32 1150287872#32) +
          Ideal.ofBits FTy.f32 897988541#32) *
    (1 + s l) +
  b l

/-- The largest magnitude of a row. -/
def aRow (h : Fin 1152 → EReal) : EReal :=
  Finset.fold max (Ideal.ofBits FTy.f32 4286578688#32) (fun x => FloatOps.absf (F := Ideal) (φ := .f32) (h x)) Finset.univ

/-- The factor that takes a row's largest magnitude to the quotient whose exponent is taken. -/
def c448 : EReal := Ideal.ofBits FTy.f32 991054117#32

/-- The codes of a row: scaled by the inverse scale and clipped. -/
def cRow (h : Fin 1152 → EReal) (l : Fin 1152) : EReal :=
  min (Ideal.ofBits FTy.f32 0x43E00000#32) (max (Ideal.ofBits FTy.f32 0xC3E00000#32) (h l * Scale.rInv c448 (aRow h)))

/-- The row's product with a weight column, times the row's scale. -/
def yRow (h w : Fin 1152 → EReal) : EReal := (∑ x, w x * cRow h x) * Scale.rScale c448 (aRow h)

/-- Token `j` of row block `r`, normalised and modulated. -/
def hAt (x : Fin 24 → Fin 768 → Fin 1152 → EReal) (sc sh : Fin 24 → Fin 1152 → EReal) (r : Fin 24) (j : Fin 768) : Fin 1152 → EReal :=
  hRow (x r j) (sc r) (sh r)

/-- The dequantised output `f` of token `t` of row block `r`. -/
def vAt (x : Fin 24 → Fin 768 → Fin 1152 → EReal) (sc sh : Fin 24 → Fin 1152 → EReal) (w : Fin 16 → Fin 1152 → EReal) (ws bi : Fin 16 → EReal)
    (r : Fin 24) (f : Fin 16) (t : Fin 768) : EReal :=
  yRow (hAt x sc sh r t) (w f) * ws f + bi f

/-- The mean over an image's 16 by 768 values. -/
def mean (v : Fin 16 → Fin 768 → EReal) : EReal := Ideal.div (∑ f, ∑ t, v f t) (Ideal.ofBits FTy.f32 0x46400000#32)

/-- The standard deviation over an image's values. -/
def std (v : Fin 16 → Fin 768 → EReal) : EReal :=
  Ideal.sqrt (Ideal.div (∑ f, ∑ t, (v f t - mean v) * (v f t - mean v)) (Ideal.ofBits FTy.f32 0x46400000#32))

/-- The guided prediction. -/
def guid (g : EReal) (vc vu : Fin 16 → Fin 768 → EReal) (f : Fin 16) (t : Fin 768) : EReal := vu f t + g * (vc f t - vu f t)

/-- The guided prediction, brought part of the way to the conditional prediction's deviation. -/
def pred (g : EReal) (vc vu : Fin 16 → Fin 768 → EReal) (f : Fin 16) (t : Fin 768) : EReal :=
  Ideal.ofBits FTy.f32 0x3F333333#32 * guid g vc vu f t
      * Ideal.div (std vc) (if 0 < std (guid g vc vu) then std (guid g vc vu) else 1)
    + Ideal.ofBits FTy.f32 0x3E99999A#32 * guid g vc vu f t

end Cert.Math

end
-- ==== Proof.KRead.lean ====
/- The kernel's payload functions read at an index, at the ideal instance. -/
module
public import proofs.«01_k».proof.Proof.Math
public import proofs.«01_k».proof.Proof.KPoint

@[expose] public section
set_option maxRecDepth 16384
noncomputable section
namespace Cert.KernelIdeal.Hand
open Cert.KernelIdeal Cert.KernelIdeal.Gen
open Idealize.ShloMosaic
open Cert.Math Cert.Scale

/-- A search step as the kernel spells it. -/
def stepS (q : EReal) (n k : BitVec 32) : BitVec 32 :=
  Scalar.select (FloatOps.cmpf (F := Ideal) (φ := .f32) .olt q (FloatOps.ofBits (F := Ideal) .f32 (IntOp.shli .vector (IntOp.addi n k) 23#32))) n (IntOp.addi n k)

theorem stepS_eq (q : EReal) (n k : BitVec 32) : stepS q n k = stepW q n k := by
  unfold stepS stepW
  rw [show FloatOps.cmpf (F := Ideal) (φ := .f32) .olt q (FloatOps.ofBits (F := Ideal) .f32 (IntOp.shli .vector (IntOp.addi n k) 23#32))
    = BitVec.ofBool (decide (q < Ideal.ofBits .f32 (IntOp.shli .vector (IntOp.addi n k) 23#32))) from rfl]
  unfold Scalar.select
  by_cases h : q < Ideal.ofBits .f32 (IntOp.shli .vector (IntOp.addi n k) 23#32)
  · rw [if_pos h, decide_eq_true h]; rfl
  · rw [if_neg h, decide_eq_false h]; rfl

theorem sel_zero (a : EReal) (x y : BitVec 32) :
    Scalar.select (FloatOps.cmpf (F := Ideal) (φ := .f32) .oeq a (FloatOps.ofBits (F := Ideal) .f32 0x00000000#32)) x y = if a = 0 then x else y := by
  have h0 : (FloatOps.ofBits (F := Ideal) .f32 0x00000000#32 : EReal) = 0 := by
    show Ideal.ieee 8 23 (0x00000000#32) = 0
    unfold Ideal.ieee
    simp
  rw [show FloatOps.cmpf (F := Ideal) (φ := .f32) .oeq a (FloatOps.ofBits (F := Ideal) .f32 0x00000000#32)
    = BitVec.ofBool (decide (a = (FloatOps.ofBits (F := Ideal) .f32 0x00000000#32 : EReal))) from rfl, h0]
  unfold Scalar.select
  by_cases h : a = 0
  · rw [if_pos h, decide_eq_true h]; rfl
  · rw [if_neg h, decide_eq_false h]; rfl

variable (s b : Vec Ideal S1x1152 .f32) (X : Vec Ideal S1x1x128x1152 .bf16)

/-- A normalised row. -/
theorem hC_at (r : Fin 128) (l : Fin 1152) :
    hC s b X (ix2 r l) = hRow (fun l => X (ix4 0 0 r l)) (fun l => s (ix2 0 l)) (fun l => b (ix2 0 l)) l := by
  pointwise [hC, k0_pay3, k0_pay23] <;> rfl

/-- The row's largest magnitude, in every lane. -/
theorem pay4_at (r l : Fin 128) : k0_pay4 s b X (ix2 r l) = aRow (fun x => k0_pay3 s b X (ix2 r x)) := by
  pointwise [k0_pay4] <;> rfl

theorem pay5_at (i : S128x128.Idx) : k0_pay5 s b X i = k0_pay4 s b X i * c448 := rfl

theorem pay6_at (i : S128x128.Idx) : k0_pay6 s b X i = stepS (k0_pay5 s b X i) 0#32 128#32 := rfl

theorem pay8_at (q : FVec Ideal S128x128 .f32) (n : IVec S128x128 32) (i : S128x128.Idx) :
    k0_pay8 q n k0_pay7 i = stepS (q i) (stepS (q i) (stepS (q i) (stepS (q i) (stepS (q i) (n i) 64#32) 32#32) 16#32) 8#32) 4#32 := rfl

theorem pay10_at (a q : FVec Ideal S128x128 .f32) (n : IVec S128x128 32) (i : S128x128.Idx) :
    k0_pay10 a q n k0_pay9 i = Scalar.select (FloatOps.cmpf (F := Ideal) (φ := .f32) .oeq (a i) (FloatOps.ofBits (F := Ideal) .f32 0x00000000#32)) 0#32
      (IntOp.subi (stepS (q i) (stepS (q i) (n i) 2#32) 1#32) 126#32) := rfl

/-- The exponent word. -/
theorem exp_at (i : S128x128.Idx) :
    k0_pay10 (k0_pay4 s b X) (k0_pay5 s b X) (k0_pay8 (k0_pay5 s b X) (k0_pay6 s b X) k0_pay7) k0_pay9 i = kE c448 (k0_pay4 s b X i) := by
  rw [pay10_at, sel_zero, pay8_at, pay6_at, pay5_at]
  simp only [stepS_eq]
  rfl

theorem scC_at (r l : Fin 128) : scC s b X (ix2 r l) = rScale c448 (aRow (fun x => hC s b X (ix2 r x))) := by
  have h : scC s b X (ix2 r l) = kScale c448 (k0_pay4 (k0_pay23 s) b X (ix2 r l)) := by
    unfold kScale
    rw [← exp_at]
    rfl
  rw [h, pay4_at, kScale_eq]
  rfl

theorem inC_at (r l : Fin 128) : inC s b X (ix2 r l) = rInv c448 (aRow (fun x => hC s b X (ix2 r x))) := by
  have h : inC s b X (ix2 r l) = kInv c448 (k0_pay4 (k0_pay23 s) b X (ix2 r l)) := by
    unfold kInv
    rw [← exp_at]
    rfl
  rw [h, pay4_at, kInv_eq]
  rfl

theorem pay24_at (h : FVec Ideal S128x1152 .f32) (v : FVec Ideal S128x128 .f32) (r : Fin 128) (l : Fin 1152) :
    k0_pay24 h v (ix2 r l) = min (Ideal.ofBits FTy.f32 0x43E00000#32) (max (Ideal.ofBits FTy.f32 0xC3E00000#32) (h (ix2 r l) * v (ix2 r 0))) := by
  pointwise [k0_pay24] <;> rfl

/-- The clipped codes of a row. -/
theorem code_at (r : Fin 128) (l : Fin 1152) :
    k0_pay24 (hC s b X) (inC s b X) (ix2 r l) = cRow (fun x => hC s b X (ix2 r x)) l := by
  rw [pay24_at, inC_at]; rfl

theorem codesC_at (r : Fin 128) (l : Fin 1152) :
    codesC s b X (ix4 0 0 r l) = cRow (fun x => hC s b X (ix2 r x)) l := by
  rw [← code_at]
  pointwise [codesC, k0_pay25] <;> rfl

theorem srowC_at (r : Fin 128) : srowC s b X (ix3 0 0 r) = rScale c448 (aRow (fun x => hC s b X (ix2 r x))) := by
  rw [← scC_at s b X r 0]
  pointwise [srowC, k0_pay27, k0_pay26] <;> rfl

theorem pay28_at (h : FVec Ideal S128x1152 .f32) (v u : FVec Ideal S128x128 .f32) (w : Vec Ideal S16x1152 .fp8e4m3) (f : Fin 16) (r : Fin 128) :
    k0_pay28 h v u w (ix3 0 f r) = (∑ x, w (ix2 f x) * k0_pay24 h u (ix2 r x)) * v (ix2 r 0) := by
  pointwise [k0_pay28, k0_pay26] <;> rfl

theorem yC_at (w : Vec Ideal S16x1152 .fp8e4m3) (f : Fin 16) (r : Fin 128) :
    yC s b X w (ix3 0 f r) = yRow (fun x => hC s b X (ix2 r x)) (fun x => w (ix2 f x)) := by
  unfold yC yRow
  rw [pay28_at, scC_at]
  simp only [code_at]

theorem pay41_at (x : Vec Ideal S1x16 .f32) (f : Fin 16) : k0_pay41 x (ix2 f 0) = x (ix2 0 f) := by
  pointwise [k0_pay41] <;> rfl
theorem pay43_at (x : Vec Ideal S1x16 .f32) (f : Fin 16) : k0_pay43 (k0_pay42 x) (ix2 f 0) = x (ix2 0 f) := by
  pointwise [k0_pay43, k0_pay42] <;> rfl

theorem pay44_at (w : FVec Ideal S16x1 .f32) (b : FVec Ideal S16x16 .f32) (y : Vec Ideal S1x16x768 .f32) (f : Fin 16) (t : Fin 768) :
    k0_pay44 w b y (ix2 f t) = y (ix3 0 f t) * w (ix2 f 0) + k0_pay43 b (ix2 f 0) := by
  pointwise [k0_pay44] <;> rfl

theorem pay45_at (w : FVec Ideal S16x1 .f32) (b : FVec Ideal S16x16 .f32) (y z : Vec Ideal S1x16x768 .f32) (g : Elt Ideal .f32) (f : Fin 16) (t : Fin 768) :
    k0_pay45 w b y z g (ix2 f t) = guid g (fun f t => y (ix3 0 f t) * w (ix2 f 0) + k0_pay43 b (ix2 f 0))
      (fun f t => z (ix3 0 f t) * w (ix2 f 0) + k0_pay43 b (ix2 f 0)) f t := by
  pointwise [k0_pay45, k0_pay44] <;> rfl

theorem pay46_at (w : FVec Ideal S16x1 .f32) (b : FVec Ideal S16x16 .f32) (y : Vec Ideal S1x16x768 .f32) :
    k0_pay46 w b y (ix2 0 0) = std (fun f t => k0_pay44 w b y (ix2 f t)) := by
  pointwise [k0_pay46] <;> rfl

theorem pay47_at (w : FVec Ideal S16x1 .f32) (b : FVec Ideal S16x16 .f32) (y z : Vec Ideal S1x16x768 .f32) (g : Elt Ideal .f32) :
    Ideal.sqrt (Ideal.div (k0_pay47 w b y z g) (Ideal.ofBits FTy.f32 0x46400000#32)) = std (fun f t => k0_pay45 w b y z g (ix2 f t)) := by
  pointwise [k0_pay47] <;> rfl

theorem pay48_at (v : FVec Ideal S16x768 .f32) (u : FVec Ideal S1x1 .f32) (q : EReal) (f : Fin 16) (t : Fin 768) :
    k0_pay48 v u q (ix2 f t) =
      Ideal.ofBits FTy.f32 0x3F333333#32 * v (ix2 f t)
        * Ideal.div (u (ix2 0 0)) (if 0 < Ideal.sqrt (Ideal.div q (Ideal.ofBits FTy.f32 0x46400000#32))
            then Ideal.sqrt (Ideal.div q (Ideal.ofBits FTy.f32 0x46400000#32)) else 1)
      + Ideal.ofBits FTy.f32 0x3E99999A#32 * v (ix2 f t) := by
  pointwise [k0_pay48] <;> rfl

/-- The prediction of an image from the two halves' scaled products. -/
theorem predF_at (w : FVec Ideal S16x1 .f32) (b : FVec Ideal S16x16 .f32) (y z : Vec Ideal S1x16x768 .f32) (g : Elt Ideal .f32) (f : Fin 16) (t : Fin 768) :
    predF w b y z g (ix2 f t) = pred g (fun f t => y (ix3 0 f t) * w (ix2 f 0) + k0_pay43 b (ix2 f 0))
      (fun f t => z (ix3 0 f t) * w (ix2 f 0) + k0_pay43 b (ix2 f 0)) f t := by
  show k0_pay48 _ _ _ (ix2 f t) = _
  rw [pay48_at, pay46_at, pay47_at]
  simp only [pay45_at, pay44_at]
  rfl

/-- The new latent from the image. -/
theorem latK_at (v : FVec Ideal S16x768 .f32) (x10 : S1x4x48x64.Idx → Elt Ideal .f32) (x3 x2 : S12.Idx → Elt Ideal .f32) (b : Fin 12) (c : Fin 4) (r : Fin 48) (q : Fin 64) :
    latK v x10 x3 x2 b (ix4 0 c r q) = x10 (ix4 0 c r q) + (x3 (ix1 b) - x2 (ix1 b)) * imgK v (ix3 c r q) := by
  pointwise [latK, k0_pay1, k0_pay155] <;> rfl

/-- The velocity from the image. -/
theorem voutK_at (v : FVec Ideal S16x768 .f32) (c : Fin 4) (r : Fin 48) (q : Fin 64) : voutK v (ix4 0 c r q) = imgK v (ix3 c r q) := by
  pointwise [voutK, k0_pay2] <;> rfl

end Cert.KernelIdeal.Hand

end
-- ==== Proof.KValue.lean ====
/- The kernel's four results, read at an index as the row-by-row mathematics. -/
module
public import proofs.«01_k».proof.Proof.KRead
public import proofs.«01_k».proof.Proof.KFinal

@[expose] public section
set_option maxRecDepth 16384
noncomputable section
namespace Cert.KernelIdeal.Hand
open Cert.KernelIdeal Cert.KernelIdeal.Gen
open Idealize.ShloMosaic
open Cert.Math Cert.Scale

variable (a0 : Vec Ideal S24x768x1152 .bf16) (a1 a2 : Vec Ideal S24x1152 .f32) (a3 : Vec Ideal S1152x16 .fp8e4m3) (a4 a5 : Vec Ideal S16 .f32)
  (a6 a7 a8 : Vec Ideal S12 .f32) (a9 : Vec Ideal S12x4x48x64 .f32)

/-! ### The arguments by their coordinates -/

abbrev cx : Fin 24 → Fin 768 → Fin 1152 → EReal := fun r j l => a0 (ix3 r j l)
abbrev cs (a : Vec Ideal S24x1152 .f32) : Fin 24 → Fin 1152 → EReal := fun r l => a (ix2 r l)
abbrev cw : Fin 16 → Fin 1152 → EReal := fun f x => a3 (ix2 x f)
abbrev cv (a : Vec Ideal S16 .f32) : Fin 16 → EReal := fun f => a (ix1 f)

/-- Token `j` of half `h` of image `b`, normalised by the kernel. -/
theorem rowK_at (b : Fin 12) (h : Fin 2) (r : Fin 24) (hr : r.1 = 12 * h.1 + b.1) (j : Fin 768) :
    (fun x => hC (rowK a2 b h) (rowK a1 b h) (chunk (xB a0 b) h (kk j)) (ix2 (rr j) x)) = hAt (cx a0) (cs a2) (cs a1) r j := by
  have er : (⟨12 * h.1 + b.1, by omega⟩ : Fin 24) = r := Fin.ext hr.symm
  have ej : (⟨128 * (kk j).1 + (rr j).1, by have := (kk j).2; have := (rr j).2; omega⟩ : Fin 768) = j :=
    Fin.ext (show 128 * (j.1 / 128) + j.1 % 128 = j.1 by omega)
  funext x
  rw [hC_at]
  unfold hAt cx cs
  rw [← er]
  have e1 : (fun l : Fin 1152 => chunk (xB a0 b) h (kk j) (ix4 0 0 (rr j) l)) = fun l => a0 (ix3 ⟨12 * h.1 + b.1, by omega⟩ j l) := by
    funext l
    refine Eq.trans (?_ : _ = a0 (ix3 ⟨12 * h.1 + b.1, by omega⟩ ⟨128 * (kk j).1 + (rr j).1, by have := (kk j).2; have := (rr j).2; omega⟩ l)) ?_
    · rfl
    · rw [ej]
  rw [e1]
  rfl

/-- One half's product of the kernel, as the dequantised outputs. -/
theorem halfK_at (b : Fin 12) (h : Fin 2) (r : Fin 24) (hr : r.1 = 12 * h.1 + b.1) (f : Fin 16) (t : Fin 768) :
    halfK (yK (rowK a2 b) (rowK a1 b) (xB a0 b) (wT a3)) h (ix3 0 f t) = yRow (hAt (cx a0) (cs a2) (cs a1) r t) (cw a3 f) := by
  show yC (rowK a2 b h) (rowK a1 b h) (chunk (xB a0 b) h (kk t)) (wT a3) (ix3 0 f (rr t)) = _
  rw [yC_at, rowK_at a0 a1 a2 b h r hr t]
  rfl

/-- The kernel's prediction. -/
theorem predK_at (b : Fin 12) (f : Fin 16) (t : Fin 768) :
    predK a6 (xB a0 b) a1 a2 (wT a3) (vB a4) (vB a5) b (ix2 f t)
      = pred (a6 (ix1 b)) (vAt (cx a0) (cs a2) (cs a1) (cw a3) (cv a4) (cv a5) ⟨b.1, by omega⟩)
          (vAt (cx a0) (cs a2) (cs a1) (cw a3) (cv a4) (cv a5) ⟨12 + b.1, by omega⟩) f t := by
  unfold predK
  rw [predF_at]
  simp only [halfK_at a0 a1 a2 a3 b 0 ⟨b.1, by omega⟩ (by simp), halfK_at a0 a1 a2 a3 b 1 ⟨12 + b.1, by omega⟩ (by simp), pay41_at, pay43_at]
  rfl

/-- The scales. -/
theorem K13_at (r : Fin 24) (j : Fin 768) :
    K13 a0 a1 a2 a3 a4 a5 a6 a7 a8 a9 (ix2 r j) = rScale c448 (aRow (hAt (cx a0) (cs a2) (cs a1) r j)) := by
  show srowC (rowK a2 (rB r) (rH r)) (rowK a1 (rB r) (rH r)) (chunk (xB a0 (rB r)) (rH r) (kk j)) (ix3 0 0 (rr j)) = _
  rw [srowC_at, rowK_at a0 a1 a2 (rB r) (rH r) r (show r.1 = 12 * (r.1 / 12) + r.1 % 12 by omega) j]

/-- The codes. -/
theorem K12_at (g : Fin 2) (b : Fin 12) (j : Fin 768) (l : Fin 1152) :
    K12 a0 a1 a2 a3 a4 a5 a6 a7 a8 a9 (ix4 g b j l) = cRow (hAt (cx a0) (cs a2) (cs a1) ⟨g.1 * 12 + b.1, by omega⟩ j) l := by
  show codesC (rowK a2 b g) (rowK a1 b g) (chunk (xB a0 b) g (kk j)) (ix4 0 0 (rr j) l) = _
  rw [codesC_at, rowK_at a0 a1 a2 b g ⟨g.1 * 12 + b.1, by omega⟩ (show g.1 * 12 + b.1 = 12 * g.1 + b.1 by omega) j]

/-- The image of the kernel's prediction. -/
theorem img_at (b : Fin 12) (c : Fin 4) (r : Fin 48) (q : Fin 64) :
    imgK (predK a6 (xB a0 b) a1 a2 (wT a3) (vB a4) (vB a5) b) (ix3 c r q)
      = pred (a6 (ix1 b)) (vAt (cx a0) (cs a2) (cs a1) (cw a3) (cv a4) (cv a5) ⟨b.1, by omega⟩)
          (vAt (cx a0) (cs a2) (cs a1) (cw a3) (cv a4) (cv a5) ⟨12 + b.1, by omega⟩)
          ⟨r.1 % 2 * 8 + q.1 % 2 * 4 + c.1, by omega⟩ ⟨r.1 / 2 * 32 + q.1 / 2, by omega⟩ := by
  rw [← predK_at]
  unfold imgK
  refine congrArg _ (congrArg₂ ix2 (Fin.ext ?_) (Fin.ext ?_))
  · show 8 * (r.1 % 2) + c.1 + 4 * (q.1 % 2) = r.1 % 2 * 8 + q.1 % 2 * 4 + c.1; omega
  · show 32 * (r.1 / 2) + q.1 / 2 = r.1 / 2 * 32 + q.1 / 2; omega

/-- The velocity. -/
theorem K11_at (b : Fin 12) (c : Fin 4) (r : Fin 48) (q : Fin 64) :
    K11 a0 a1 a2 a3 a4 a5 a6 a7 a8 a9 (ix4 b c r q)
      = pred (a6 (ix1 b)) (vAt (cx a0) (cs a2) (cs a1) (cw a3) (cv a4) (cv a5) ⟨b.1, by omega⟩)
          (vAt (cx a0) (cs a2) (cs a1) (cw a3) (cv a4) (cv a5) ⟨12 + b.1, by omega⟩)
          ⟨r.1 % 2 * 8 + q.1 % 2 * 4 + c.1, by omega⟩ ⟨r.1 / 2 * 32 + q.1 / 2, by omega⟩ := by
  show voutK (predK a6 (xB a0 b) a1 a2 (wT a3) (vB a4) (vB a5) b) (ix4 0 c r q) = _
  rw [voutK_at, img_at]

/-- The new latent. -/
theorem K10_at (b : Fin 12) (c : Fin 4) (r : Fin 48) (q : Fin 64) :
    K10 a0 a1 a2 a3 a4 a5 a6 a7 a8 a9 (ix4 b c r q)
      = a9 (ix4 b c r q) + (a8 (ix1 b) - a7 (ix1 b)) *
        pred (a6 (ix1 b)) (vAt (cx a0) (cs a2) (cs a1) (cw a3) (cv a4) (cv a5) ⟨b.1, by omega⟩)
          (vAt (cx a0) (cs a2) (cs a1) (cw a3) (cv a4) (cv a5) ⟨12 + b.1, by omega⟩)
          ⟨r.1 % 2 * 8 + q.1 % 2 * 4 + c.1, by omega⟩ ⟨r.1 / 2 * 32 + q.1 / 2, by omega⟩ := by
  show latK (predK a6 (xB a0 b) a1 a2 (wT a3) (vB a4) (vB a5) b) (lB a9 b) a8 a7 b (ix4 0 c r q) = _
  rw [latK_at, img_at]
  rfl

end Cert.KernelIdeal.Hand

end
-- ==== Proof.RRead.lean ====
/- The reference's payload functions read at an index, at the ideal instance. -/
module
public import proofs.«01_k».proof.Proof.Math
public import proofs.«01_k».proof.Proof.Gen.ReferenceIdeal.Skeleton

@[expose] public section
set_option maxRecDepth 16384
noncomputable section
namespace Cert.ReferenceIdeal.Hand
open Cert.ReferenceIdeal Cert.ReferenceIdeal.Gen
open Idealize.ShloMosaic
open Cert.Math Cert.Scale

section
variable (v0 : Vec Ideal S24x768x1152 .bf16) (v18 v24 : Vec Ideal S24x1152 .f32)

/-- A normalised row. -/
theorem pay4_at (r : Fin 24) (j : Fin 768) (l : Fin 1152) :
    k0_pay4 v0 v18 v24 (ix3 r j l) = hRow (fun l => v0 (ix3 r j l)) (fun l => v18 (ix2 r l)) (fun l => v24 (ix2 r l)) l := by
  pointwise [k0_pay4] <;> rfl

/-- The row's largest magnitude. -/
theorem pay5_at (r : Fin 24) (j : Fin 768) : k0_pay5 v0 v18 v24 (ix2 r j) = aRow (fun x => k0_pay4 v0 v18 v24 (ix3 r j x)) := by
  pointwise [k0_pay5] <;> rfl
end

/-- The new latent's image indexing. -/
theorem pay1_at (v : FVec Ideal S12x24x32x2x2x4 .f32) (b : Fin 12) (c : Fin 4) (r : Fin 48) (q : Fin 64) : k0_pay1 v (ix4 b c r q)
    = v (ix6 b ⟨r.1 / 2, by omega⟩ ⟨q.1 / 2, by omega⟩ ⟨r.1 % 2, by omega⟩ ⟨q.1 % 2, by omega⟩ c) := by
  pointwise [k0_pay1] <;> rfl

/-- The new latent. -/
theorem pay2_at (v : FVec Ideal S12x24x32x2x2x4 .f32) (x : Vec Ideal S12x4x48x64 .f32) (p n : Vec Ideal S12 .f32) (b : Fin 12) (c : Fin 4) (r : Fin 48) (q : Fin 64) :
    k0_pay2 v x p n (ix4 b c r q) = x (ix4 b c r q) + (p (ix1 b) - n (ix1 b)) * k0_pay1 v (ix4 b c r q) := by
  pointwise [k0_pay2] <;> rfl

/-- The velocity. -/
theorem pay3_at (v : FVec Ideal S12x24x32x2x2x4 .f32) (i : S12x4x48x64.Idx) : k0_pay3 v i = k0_pay1 v i := rfl

theorem pay8_at (v29 : FVec Ideal S24x768 .f32) (v40 : IVec S24x768x254 1) (r : Fin 24) (j : Fin 768)
    (h : ∀ x, v40 (ix3 r j x) = mask (v29 (ix2 r j) * c448) x) :
    k0_pay8 v29 v40 (Scalar.ofBits .f32 0x00000000#32) k0_pay7 (ix2 r j) = rE c448 (v29 (ix2 r j)) := by
  unfold rE
  simp only [← h]
  pointwise [k0_pay8, k0_pay7] <;> rfl

theorem pay9_at (v29 : FVec Ideal S24x768 .f32) (v40 : IVec S24x768x254 1) (c : EReal) (o : FVec Ideal S24x768x254 .f32) (r : Fin 24) (j : Fin 768) :
    k0_pay9 v29 v40 c o (ix2 r j) = Ideal.exp2 (min (k0_pay8 v29 v40 c o (ix2 r j)) (Ideal.ofBits .f32 0x42FE0000#32)) := by
  pointwise [k0_pay9] <;> rfl

theorem pay10_at (h : FVec Ideal S24x768x1152 .f32) (v29 : FVec Ideal S24x768 .f32) (v40 : IVec S24x768x254 1) (c : EReal) (o : FVec Ideal S24x768x254 .f32) (r : Fin 24) (j : Fin 768) (l : Fin 1152) :
    k0_pay10 h v29 v40 c o (ix3 r j l) = min (Ideal.ofBits FTy.f32 0x43E00000#32) (max (Ideal.ofBits FTy.f32 0xC3E00000#32) (h (ix3 r j l) *
      Ideal.exp2 (max (0 - k0_pay8 v29 v40 c o (ix2 r j)) (Ideal.ofBits .f32 0xC2FC0000#32)))) := by
  pointwise [k0_pay10] <;> rfl

theorem pay11_at (h : FVec Ideal S24x768x1152 .f32) (v29 : FVec Ideal S24x768 .f32) (v40 : IVec S24x768x254 1) (c : EReal) (o : FVec Ideal S24x768x254 .f32) (g : Fin 2) (b : Fin 12) (j : Fin 768) (l : Fin 1152) :
    k0_pay11 h v29 v40 c o (ix4 g b j l) = k0_pay10 h v29 v40 c o (ix3 ⟨g.1 * 12 + b.1, by omega⟩ j l) := by
  pointwise [k0_pay11] <;> rfl

theorem pay12_at (h : FVec Ideal S24x768x1152 .f32) (v29 : FVec Ideal S24x768 .f32) (v40 : IVec S24x768x254 1) (c : EReal) (o : FVec Ideal S24x768x254 .f32)
    (w : Vec Ideal S1152x16 .fp8e4m3) (ws : Vec Ideal S16 .f32) (r : Fin 24) (j : Fin 768) (f : Fin 16) :
    k0_pay12 h v29 v40 c o w ws (ix3 r j f) = (∑ x, k0_pay10 h v29 v40 c o (ix3 r j x) * w (ix2 x f)) * k0_pay9 v29 v40 c o (ix2 r j) * ws (ix1 f) := by
  pointwise [k0_pay12] <;> rfl

end Cert.ReferenceIdeal.Hand

end
-- ==== Proof.RPred.lean ====
/- The reference's guided prediction read at an index, at the ideal instance. -/
module
public import proofs.«01_k».proof.Proof.Math
public import proofs.«01_k».proof.Proof.Gen.ReferenceIdeal.Skeleton

@[expose] public section
set_option maxRecDepth 16384
noncomputable section
namespace Cert.ReferenceIdeal.Hand
open Cert.ReferenceIdeal Cert.ReferenceIdeal.Gen
open Idealize.ShloMosaic
open Cert.Math Cert.Scale

/-- The deviation with the two sums exchanged. -/
theorem std_comm (v : Fin 16 → Fin 768 → EReal) : std v =
    Ideal.sqrt (Ideal.div (∑ t, ∑ f, (v f t - Ideal.div (∑ t, ∑ f, v f t) (Ideal.ofBits FTy.f32 0x46400000#32))
      * (v f t - Ideal.div (∑ t, ∑ f, v f t) (Ideal.ofBits FTy.f32 0x46400000#32))) (Ideal.ofBits FTy.f32 0x46400000#32)) := by
  unfold std mean
  rw [Finset.sum_comm, Finset.sum_comm (f := fun f t => v f t)]

/-- The prediction of image `b`, at patch row `i`, patch column `j`, row and column parities `u` and `w` and channel `s`. -/
theorem pay13_at (v : FVec Ideal S24x768x16 .f32) (bi : Vec Ideal S16 .f32) (g : Vec Ideal S12 .f32) (b : Fin 12) (i : Fin 24) (j : Fin 32) (u w : Fin 2) (s : Fin 4) :
    k0_pay13 v bi g (ix6 b i j u w s) = pred (g (ix1 b)) (fun f t => v (ix3 ⟨b.1, by omega⟩ t f) + bi (ix1 f)) (fun f t => v (ix3 ⟨12 + b.1, by omega⟩ t f) + bi (ix1 f))
      ⟨u.1 * 8 + w.1 * 4 + s.1, by omega⟩ ⟨i.1 * 32 + j.1, by omega⟩ := by
  unfold pred
  rw [std_comm, std_comm]
  unfold guid
  pointwise [k0_pay13] <;> rfl

end Cert.ReferenceIdeal.Hand

end
-- ==== Proof.RMask.lean ====
/- The reference's powers of two not above the quotient, read at an index. -/
module
public import proofs.«01_k».proof.Proof.Math
public import proofs.«01_k».proof.Proof.Gen.ReferenceIdeal.Skeleton

@[expose] public section
set_option maxRecDepth 16384
noncomputable section
namespace Cert.ReferenceIdeal.Hand
open Cert.ReferenceIdeal Cert.ReferenceIdeal.Gen
open Idealize.ShloMosaic
open Cert.Math Cert.Scale

theorem row_at (x : FVec Ideal S24x768 .f32) (r : Fin 24) (j : Fin 768) (l : Fin 254) :
    broadcastTo S24x768x254 (shapeCast S24x768x1 x shapeCasts_S24x768_S24x768x1) broadcasts_S24x768x1_S24x768x254 (ix3 r j l) = x (ix2 r j) := by
  pointwise <;> rfl

theorem lane_at (x : FVec Ideal S1x1x254 .f32) (r : Fin 24) (j : Fin 768) (l : Fin 254) :
    broadcastTo S24x768x254 x broadcasts_S1x1x254_S24x768x254 (ix3 r j l) = x (ix3 0 0 l) := by
  pointwise <;> rfl

theorem iota_at (l : Fin 254) : iota .tc S1x1x254 32 [2] iota_S1x1x254_d2_w32 (ix3 0 0 l) = BitVec.ofNat 32 l.1 := by
  pointwise <;> rfl

/-- The powers of two of a vector of words. -/
def pows (x : IVec S1x1x254 32) : FVec Ideal S1x1x254 .f32 :=
  exp2 (subf (sitofp .f32 x) (broadcast S1x1x254 (Scalar.ofBits (F := Ideal) .f32 0x42FC0000#32)))

theorem pows_at (x : IVec S1x1x254 32) (i : S1x1x254.Idx) :
    pows x i = Ideal.exp2 (FloatOps.sitofp (F := Ideal) .f32 (x i) - Ideal.ofBits .f32 0x42FC0000#32) := rfl

theorem cmp_at (x y : FVec Ideal S24x768x254 .f32) (i : S24x768x254.Idx) : cmpf .oge x y i = Ideal.cmp .oge (x i) (y i) := rfl

theorem quot_at (x : FVec Ideal S24x768 .f32) (i : S24x768.Idx) :
    mulf x (broadcast S24x768 (Scalar.ofBits (F := Ideal) .f32 0x3B124925#32)) i = x i * c448 := rfl

theorem pay6_eq (v0 : Vec Ideal S24x768x1152 .bf16) (v18 v24 : Vec Ideal S24x1152 .f32) :
    k0_pay6 v0 v18 v24 = cmpf .oge
      (broadcastTo S24x768x254 (shapeCast S24x768x1 (mulf (k0_pay5 v0 v18 v24) (broadcast S24x768 (Scalar.ofBits (F := Ideal) .f32 0x3B124925#32))) shapeCasts_S24x768_S24x768x1) broadcasts_S24x768x1_S24x768x254)
      (broadcastTo S24x768x254 (pows (iota .tc S1x1x254 32 [2] iota_S1x1x254_d2_w32)) broadcasts_S1x1x254_S24x768x254) := by
  unfold k0_pay6 pows; rfl

/-- Lane `l` of a row: whether `2^(l-126)` is not above the row's quotient. -/
theorem pay6_at (v0 : Vec Ideal S24x768x1152 .bf16) (v18 v24 : Vec Ideal S24x1152 .f32) (r : Fin 24) (j : Fin 768) (l : Fin 254) :
    k0_pay6 v0 v18 v24 (ix3 r j l) = mask (k0_pay5 v0 v18 v24 (ix2 r j) * c448) l := by
  rw [pay6_eq, cmp_at, row_at, lane_at, pows_at, iota_at, quot_at]
  unfold mask
  exact congrArg (Ideal.cmp .oge _) rfl

end Cert.ReferenceIdeal.Hand

end
-- ==== Proof.RValue.lean ====
/- The reference's four results, read at an index as the row-by-row mathematics. -/
module
public import proofs.«01_k».proof.Proof.RRead
public import proofs.«01_k».proof.Proof.RPred
public import proofs.«01_k».proof.Proof.RMask
public import proofs.«01_k».proof.Proof.Gen.ReferenceIdeal.Value

@[expose] public section
set_option maxRecDepth 16384
noncomputable section
namespace Cert.ReferenceIdeal.Hand
open Cert.ReferenceIdeal Cert.ReferenceIdeal.Gen
open Idealize.ShloMosaic
open Cert.Math Cert.Scale

variable (a0 : Vec Ideal S24x768x1152 .bf16) (a1 a2 : Vec Ideal S24x1152 .f32) (a3 : Vec Ideal S1152x16 .fp8e4m3) (a4 a5 : Vec Ideal S16 .f32)
  (a6 a7 a8 : Vec Ideal S12 .f32) (a9 : Vec Ideal S12x4x48x64 .f32)

theorem z1 : (![0] : Fin 1 → Nat) = fun _ => 0 := funext fun a => by fin_cases a; rfl
theorem z2 : (![0, 0] : Fin 2 → Nat) = fun _ => 0 := funext fun a => by fin_cases a <;> rfl
theorem z3 : (![0, 0, 0] : Fin 3 → Nat) = fun _ => 0 := funext fun a => by fin_cases a <;> rfl

/-! ### The whole-array loads -/

theorem h14 : k0_pay14 a0 a1 a2 a3 a4 a5 a6 a7 a8 a9 = k0_pay4 a0 a2 a1 := by
  unfold k0_pay14
  rw [View.ld_unit_zero (S := S24x768x1152) z3 _ a0, View.ld_unit_zero (S := S24x1152) z2 _ a2, View.ld_unit_zero (S := S24x1152) z2 _ a1]
theorem h15 : k0_pay15 a0 a1 a2 a3 a4 a5 a6 a7 a8 a9 = k0_pay5 a0 a2 a1 := by
  unfold k0_pay15
  rw [View.ld_unit_zero (S := S24x768x1152) z3 _ a0, View.ld_unit_zero (S := S24x1152) z2 _ a2, View.ld_unit_zero (S := S24x1152) z2 _ a1]
theorem h16 : k0_pay16 a0 a1 a2 a3 a4 a5 a6 a7 a8 a9 = k0_pay6 a0 a2 a1 := by
  unfold k0_pay16
  rw [View.ld_unit_zero (S := S24x768x1152) z3 _ a0, View.ld_unit_zero (S := S24x1152) z2 _ a2, View.ld_unit_zero (S := S24x1152) z2 _ a1]
theorem h17 : k0_pay17 a0 a1 a2 a3 a4 a5 a6 a7 a8 a9 = k0_pay7 (F := Ideal) := rfl
theorem h18 : k0_pay18 a0 a1 a2 a3 a4 a5 a6 a7 a8 a9 =
    k0_pay13 (k0_pay12 (k0_pay4 a0 a2 a1) (k0_pay5 a0 a2 a1) (k0_pay6 a0 a2 a1) (Scalar.ofBits .f32 0x00000000#32) k0_pay7 a3 a4) a5 a6 := by
  unfold k0_pay18
  rw [View.ld_unit_zero (S := S1152x16) z2 _ a3, View.ld_unit_zero (S := S16) z1 _ a4, View.ld_unit_zero (S := S16) z1 _ a5, View.ld_unit_zero (S := S12) z1 _ a6,
    h14, h15, h16, h17]

/-! ### The arguments by their coordinates -/

abbrev cx : Fin 24 → Fin 768 → Fin 1152 → EReal := fun r j l => a0 (ix3 r j l)
abbrev cs (a : Vec Ideal S24x1152 .f32) : Fin 24 → Fin 1152 → EReal := fun r l => a (ix2 r l)
abbrev cw : Fin 16 → Fin 1152 → EReal := fun f x => a3 (ix2 x f)
abbrev cv (a : Vec Ideal S16 .f32) : Fin 16 → EReal := fun f => a (ix1 f)

theorem rowR (r : Fin 24) (j : Fin 768) : (fun x => k0_pay4 a0 a2 a1 (ix3 r j x)) = hAt (cx a0) (cs a2) (cs a1) r j :=
  funext fun l => pay4_at a0 a2 a1 r j l

/-- The exponent of a row. -/
theorem expR (r : Fin 24) (j : Fin 768) :
    k0_pay8 (k0_pay5 a0 a2 a1) (k0_pay6 a0 a2 a1) (Scalar.ofBits .f32 0x00000000#32) k0_pay7 (ix2 r j) = rE c448 (aRow (hAt (cx a0) (cs a2) (cs a1) r j)) := by
  rw [pay8_at _ _ r j (fun x => pay6_at a0 a2 a1 r j x), pay5_at, rowR]

theorem scaleR (r : Fin 24) (j : Fin 768) :
    k0_pay9 (k0_pay5 a0 a2 a1) (k0_pay6 a0 a2 a1) (Scalar.ofBits .f32 0x00000000#32) k0_pay7 (ix2 r j) = rScale c448 (aRow (hAt (cx a0) (cs a2) (cs a1) r j)) := by
  rw [pay9_at, expR]; rfl

theorem codeR (r : Fin 24) (j : Fin 768) (l : Fin 1152) :
    k0_pay10 (k0_pay4 a0 a2 a1) (k0_pay5 a0 a2 a1) (k0_pay6 a0 a2 a1) (Scalar.ofBits .f32 0x00000000#32) k0_pay7 (ix3 r j l)
      = cRow (hAt (cx a0) (cs a2) (cs a1) r j) l := by
  rw [pay10_at, expR, pay4_at]; rfl

theorem dotR (r : Fin 24) (j : Fin 768) (f : Fin 16) :
    k0_pay12 (k0_pay4 a0 a2 a1) (k0_pay5 a0 a2 a1) (k0_pay6 a0 a2 a1) (Scalar.ofBits .f32 0x00000000#32) k0_pay7 a3 a4 (ix3 r j f)
      = yRow (hAt (cx a0) (cs a2) (cs a1) r j) (cw a3 f) * a4 (ix1 f) := by
  rw [pay12_at, scaleR]
  simp only [codeR]
  unfold yRow
  rw [Finset.sum_congr rfl (fun x _ => mul_comm (cRow (hAt (cx a0) (cs a2) (cs a1) r j) x) (a3 (ix2 x f)))]

/-- The reference's prediction. -/
theorem predR (b : Fin 12) (i : Fin 24) (j : Fin 32) (u w : Fin 2) (s : Fin 4) :
    k0_pay18 a0 a1 a2 a3 a4 a5 a6 a7 a8 a9 (ix6 b i j u w s)
      = pred (a6 (ix1 b)) (vAt (cx a0) (cs a2) (cs a1) (cw a3) (cv a4) (cv a5) ⟨b.1, by omega⟩)
          (vAt (cx a0) (cs a2) (cs a1) (cw a3) (cv a4) (cv a5) ⟨12 + b.1, by omega⟩)
          ⟨u.1 * 8 + w.1 * 4 + s.1, by omega⟩ ⟨i.1 * 32 + j.1, by omega⟩ := by
  rw [h18, pay13_at]
  simp only [dotR]
  rfl

/-- The scales. -/
theorem G13_at (r : Fin 24) (j : Fin 768) :
    Value.G13 a0 a1 a2 a3 a4 a5 a6 a7 a8 a9 (ix2 r j) = rScale c448 (aRow (hAt (cx a0) (cs a2) (cs a1) r j)) := by
  show k0_pay9 _ _ _ _ (ix2 r j) = _
  rw [h15, h16, h17, scaleR]

/-- The codes. -/
theorem G12_at (g : Fin 2) (b : Fin 12) (j : Fin 768) (l : Fin 1152) :
    Value.G12 a0 a1 a2 a3 a4 a5 a6 a7 a8 a9 (ix4 g b j l) = cRow (hAt (cx a0) (cs a2) (cs a1) ⟨g.1 * 12 + b.1, by omega⟩ j) l := by
  show k0_pay11 _ _ _ _ _ (ix4 g b j l) = _
  rw [h14, h15, h16, h17, pay11_at, codeR]

/-- The velocity. -/
theorem G11_at (b : Fin 12) (c : Fin 4) (r : Fin 48) (q : Fin 64) :
    Value.G11 a0 a1 a2 a3 a4 a5 a6 a7 a8 a9 (ix4 b c r q)
      = pred (a6 (ix1 b)) (vAt (cx a0) (cs a2) (cs a1) (cw a3) (cv a4) (cv a5) ⟨b.1, by omega⟩)
          (vAt (cx a0) (cs a2) (cs a1) (cw a3) (cv a4) (cv a5) ⟨12 + b.1, by omega⟩)
          ⟨r.1 % 2 * 8 + q.1 % 2 * 4 + c.1, by omega⟩ ⟨r.1 / 2 * 32 + q.1 / 2, by omega⟩ := by
  show k0_pay3 _ (ix4 b c r q) = _
  rw [pay3_at, pay1_at, predR]

/-- The new latent. -/
theorem G10_at (b : Fin 12) (c : Fin 4) (r : Fin 48) (q : Fin 64) :
    Value.G10 a0 a1 a2 a3 a4 a5 a6 a7 a8 a9 (ix4 b c r q)
      = a9 (ix4 b c r q) + (a8 (ix1 b) - a7 (ix1 b)) *
        pred (a6 (ix1 b)) (vAt (cx a0) (cs a2) (cs a1) (cw a3) (cv a4) (cv a5) ⟨b.1, by omega⟩)
          (vAt (cx a0) (cs a2) (cs a1) (cw a3) (cv a4) (cv a5) ⟨12 + b.1, by omega⟩)
          ⟨r.1 % 2 * 8 + q.1 % 2 * 4 + c.1, by omega⟩ ⟨r.1 / 2 * 32 + q.1 / 2, by omega⟩ := by
  show k0_pay2 _ _ _ _ (ix4 b c r q) = _
  rw [pay2_at, pay1_at, predR]

end Cert.ReferenceIdeal.Hand

end
-- ==== Proof.Equal.lean ====
/- The four results of the kernel and of the reference are the same functions of the arguments. -/
module
public import proofs.«01_k».proof.Proof.KValue
public import proofs.«01_k».proof.Proof.RValue

@[expose] public section
set_option maxRecDepth 16384
noncomputable section
namespace Cert.Equal
open Idealize.ShloMosaic

section
open Cert.KernelIdeal

variable (a0 : Vec Ideal S24x768x1152 .bf16) (a1 a2 : Vec Ideal S24x1152 .f32) (a3 : Vec Ideal S1152x16 .fp8e4m3) (a4 a5 : Vec Ideal S16 .f32)
  (a6 a7 a8 : Vec Ideal S12 .f32) (a9 : Vec Ideal S12x4x48x64 .f32)

/-- The scales agree. -/
theorem eq13 : ReferenceIdeal.Value.G13 (F := Ideal) a0 a1 a2 a3 a4 a5 a6 a7 a8 a9 = Hand.K13 (F := Ideal) a0 a1 a2 a3 a4 a5 a6 a7 a8 a9 := by
  have key : ∀ (r : Fin 24) (j : Fin 768), ReferenceIdeal.Value.G13 (F := Ideal) a0 a1 a2 a3 a4 a5 a6 a7 a8 a9 (ix2 r j) = Hand.K13 (F := Ideal) a0 a1 a2 a3 a4 a5 a6 a7 a8 a9 (ix2 r j) :=
    fun r j => (ReferenceIdeal.Hand.G13_at a0 a1 a2 a3 a4 a5 a6 a7 a8 a9 r j).trans (Hand.K13_at a0 a1 a2 a3 a4 a5 a6 a7 a8 a9 r j).symm
  funext y
  have e : y = ix2 (y (0 : Fin 2) : Fin 24) (y (1 : Fin 2) : Fin 768) := by
    funext a; match a with | ⟨0, _⟩ => rfl | ⟨1, _⟩ => rfl
  rw [e]; exact key _ _

/-- The codes agree. -/
theorem eq12 : ReferenceIdeal.Value.G12 (F := Ideal) a0 a1 a2 a3 a4 a5 a6 a7 a8 a9 = Hand.K12 (F := Ideal) a0 a1 a2 a3 a4 a5 a6 a7 a8 a9 := by
  have key : ∀ (g : Fin 2) (b : Fin 12) (j : Fin 768) (l : Fin 1152), ReferenceIdeal.Value.G12 (F := Ideal) a0 a1 a2 a3 a4 a5 a6 a7 a8 a9 (ix4 g b j l) = Hand.K12 (F := Ideal) a0 a1 a2 a3 a4 a5 a6 a7 a8 a9 (ix4 g b j l) :=
    fun g b j l => (ReferenceIdeal.Hand.G12_at a0 a1 a2 a3 a4 a5 a6 a7 a8 a9 g b j l).trans (Hand.K12_at a0 a1 a2 a3 a4 a5 a6 a7 a8 a9 g b j l).symm
  funext y
  have e : y = ix4 (y (0 : Fin 4) : Fin 2) (y (1 : Fin 4) : Fin 12) (y (2 : Fin 4) : Fin 768) (y (3 : Fin 4) : Fin 1152) := by
    funext a; match a with | ⟨0, _⟩ => rfl | ⟨1, _⟩ => rfl | ⟨2, _⟩ => rfl | ⟨3, _⟩ => rfl
  rw [e]; exact key _ _ _ _

/-- The velocities agree. -/
theorem eq11 : ReferenceIdeal.Value.G11 (F := Ideal) a0 a1 a2 a3 a4 a5 a6 a7 a8 a9 = Hand.K11 (F := Ideal) a0 a1 a2 a3 a4 a5 a6 a7 a8 a9 := by
  have key : ∀ (b : Fin 12) (c : Fin 4) (r : Fin 48) (q : Fin 64), ReferenceIdeal.Value.G11 (F := Ideal) a0 a1 a2 a3 a4 a5 a6 a7 a8 a9 (ix4 b c r q) = Hand.K11 (F := Ideal) a0 a1 a2 a3 a4 a5 a6 a7 a8 a9 (ix4 b c r q) :=
    fun b c r q => (ReferenceIdeal.Hand.G11_at a0 a1 a2 a3 a4 a5 a6 a7 a8 a9 b c r q).trans (Hand.K11_at a0 a1 a2 a3 a4 a5 a6 a7 a8 a9 b c r q).symm
  funext y
  have e : y = ix4 (y (0 : Fin 4) : Fin 12) (y (1 : Fin 4) : Fin 4) (y (2 : Fin 4) : Fin 48) (y (3 : Fin 4) : Fin 64) := by
    funext a; match a with | ⟨0, _⟩ => rfl | ⟨1, _⟩ => rfl | ⟨2, _⟩ => rfl | ⟨3, _⟩ => rfl
  rw [e]; exact key _ _ _ _

/-- The new latents agree. -/
theorem eq10 : ReferenceIdeal.Value.G10 (F := Ideal) a0 a1 a2 a3 a4 a5 a6 a7 a8 a9 = Hand.K10 (F := Ideal) a0 a1 a2 a3 a4 a5 a6 a7 a8 a9 := by
  have key : ∀ (b : Fin 12) (c : Fin 4) (r : Fin 48) (q : Fin 64), ReferenceIdeal.Value.G10 (F := Ideal) a0 a1 a2 a3 a4 a5 a6 a7 a8 a9 (ix4 b c r q) = Hand.K10 (F := Ideal) a0 a1 a2 a3 a4 a5 a6 a7 a8 a9 (ix4 b c r q) :=
    fun b c r q => (ReferenceIdeal.Hand.G10_at a0 a1 a2 a3 a4 a5 a6 a7 a8 a9 b c r q).trans (Hand.K10_at a0 a1 a2 a3 a4 a5 a6 a7 a8 a9 b c r q).symm
  funext y
  have e : y = ix4 (y (0 : Fin 4) : Fin 12) (y (1 : Fin 4) : Fin 4) (y (2 : Fin 4) : Fin 48) (y (3 : Fin 4) : Fin 64) := by
    funext a; match a with | ⟨0, _⟩ => rfl | ⟨1, _⟩ => rfl | ⟨2, _⟩ => rfl | ⟨3, _⟩ => rfl
  rw [e]; exact key _ _ _ _
end

end Cert.Equal

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.Gen.ReferenceIdeal.Value
public import proofs.«01_k».proof.Proof.KernelFrame
public import proofs.«01_k».proof.Proof.KFinal
public import proofs.«01_k».proof.Proof.Equal

@[expose] public section

set_option maxRecDepth 16384

noncomputable section

namespace Cert.Proof

open Idealize.ShloMosaic Idealize.SL.Sem

/-- A function of ten arguments at equal arguments. -/
theorem congr10 {A0 A1 A2 A3 A4 A5 A6 A7 A8 A9 B : Type} (f : A0 → A1 → A2 → A3 → A4 → A5 → A6 → A7 → A8 → A9 → B)
    {x0 y0 : A0} {x1 y1 : A1} {x2 y2 : A2} {x3 y3 : A3} {x4 y4 : A4} {x5 y5 : A5} {x6 y6 : A6} {x7 y7 : A7} {x8 y8 : A8} {x9 y9 : A9}
    (e0 : x0 = y0) (e1 : x1 = y1) (e2 : x2 = y2) (e3 : x3 = y3) (e4 : x4 = y4) (e5 : x5 = y5) (e6 : x6 = y6) (e7 : x7 = y7)
    (e8 : x8 = y8) (e9 : x9 = y9) : f x0 x1 x2 x3 x4 x5 x6 x7 x8 x9 = f y0 y1 y2 y3 y4 y5 y6 y7 y8 y9 := by
  subst e0 e1 e2 e3 e4 e5 e6 e7 e8 e9; rfl

/-- The printed kernel's frame. -/
theorem frame_kernel : quiescent_Kernel (hKernel := Cert.Kernel.Gen.facts) :=
  fun m g _ => Cert.Kernel.Hand.frame m g

/-- The ideal kernel's frame. -/
theorem frame_kernelIdeal : quiescent_KernelIdeal (hKernelIdeal := Cert.KernelIdeal.Gen.facts) :=
  fun m g _ => (θ_run Cert.KernelIdeal.defs _ _).mono
    (fun _ h => ⟨fun c => (h.1 c).2.2.2.2, h.2⟩) (Cert.KernelIdeal.Hand.run m g)

/-- The reference's frame. -/
theorem frame_referenceIdeal : quiescent_ReferenceIdeal (hReferenceIdeal := Cert.ReferenceIdeal.Gen.facts) :=
  fun m g _ => Cert.ReferenceIdeal.Gen.frame m g

/-- The kernel and the reference end with equal results, over the extended reals. -/
theorem algebraic : algebraic_KernelIdeal_ReferenceIdeal (hKernelIdeal := Cert.KernelIdeal.Gen.facts) (hReferenceIdeal := Cert.ReferenceIdeal.Gen.facts) := by
  intro m g m' g' _ hag
  refine ⟨fun c => Cert.KernelIdeal.Hand.K10 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), fun c => Cert.KernelIdeal.Hand.K11 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), fun c => Cert.KernelIdeal.Hand.K12 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), fun c => Cert.KernelIdeal.Hand.K13 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · exact (θ_run Cert.KernelIdeal.defs _ _).mono (fun _ h => fun c => h.1 c) (Cert.KernelIdeal.Hand.run m g)
  · refine (θ_run Cert.ReferenceIdeal.defs _ _).mono (fun _ h c => ?_) (Cert.ReferenceIdeal.Value.run m' g')
    obtain ⟨e0, e1, e2, e3, e4, e5, e6, e7, e8, e9⟩ := hag c
    obtain ⟨r0, r1, r2, r3, hargs⟩ := h c
    refine ⟨r0.trans ?_, r1.trans ?_, r2.trans ?_, r3.trans ?_, hargs⟩
    · exact (congr10 (Cert.ReferenceIdeal.Value.G10 (F := Ideal)) e0 e1 e2 e3 e4 e5 e6 e7 e8 e9).trans (Cert.Equal.eq10 _ _ _ _ _ _ _ _ _ _)
    · exact (congr10 (Cert.ReferenceIdeal.Value.G11 (F := Ideal)) e0 e1 e2 e3 e4 e5 e6 e7 e8 e9).trans (Cert.Equal.eq11 _ _ _ _ _ _ _ _ _ _)
    · exact (congr10 (Cert.ReferenceIdeal.Value.G12 (F := Ideal)) e0 e1 e2 e3 e4 e5 e6 e7 e8 e9).trans (Cert.Equal.eq12 _ _ _ _ _ _ _ _ _ _)
    · exact (congr10 (Cert.ReferenceIdeal.Value.G13 (F := Ideal)) e0 e1 e2 e3 e4 e5 e6 e7 e8 e9).trans (Cert.Equal.eq13 _ _ _ _ _ _ _ _ _ _)

/-- Every claim. -/
theorem claim : Cert.Claim := ⟨Cert.Kernel.Gen.facts, Cert.KernelIdeal.Gen.facts, Cert.ReferenceIdeal.Gen.facts,
  frame_kernel, frame_kernelIdeal, frame_referenceIdeal, trivial, algebraic⟩

end Cert.Proof

end
